-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered [hPre_ordered : Cert.Pre_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered [hPre_ordered : Cert.Pre_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordered [hKernelIdeal : Cert.KernelIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordered [hReferenceIdeal : Cert.ReferenceIdeal.Facts] [hPre_ordered : Cert.Pre_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ordered [hKernelIdeal : Cert.KernelIdeal.Facts] [hReferenceIdeal : Cert.ReferenceIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordered : Cert.Pre_ordered.Facts),
    quiescent_Kernel (hKernel := hKernel)
    ∧ quiescent_KernelIdeal (hKernelIdeal := hKernelIdeal)
    ∧ quiescent_KernelIdeal_pre_ordered (hKernelIdeal := hKernelIdeal) (hPre_ordered := hPre_ordered)
    ∧ quiescent_ReferenceIdeal (hReferenceIdeal := hReferenceIdeal)
    ∧ quiescent_ReferenceIdeal_pre_ordered (hReferenceIdeal := hReferenceIdeal) (hPre_ordered := hPre_ordered)
    ∧ preserves_Kernel_KernelIdeal
    ∧ algebraic_KernelIdeal_ReferenceIdeal_pre_ordered (hKernelIdeal := hKernelIdeal) (hReferenceIdeal := hReferenceIdeal) (hPre_ordered := hPre_ordered)
-- ==== Pre_ordered.lean ====
abbrev S5000x4 : Shape := ⟨2, ![5000, 4]⟩
abbrev S5000x81 : Shape := ⟨2, ![5000, 81]⟩
abbrev S5000x81x4 : Shape := ⟨3, ![5000, 81, 4]⟩
abbrev S5000x1 : Shape := ⟨2, ![5000, 1]⟩
abbrev S5000 : Shape := ⟨1, ![5000]⟩
abbrev S_ : Shape := ⟨0, ![]⟩

class Facts : Prop where
  slices_S5000x4_S5000x1_0_0 : S5000x4.Slices ![0, 0] S5000x1
  shapeCasts_S5000x1_S5000 : S5000x1.ShapeCasts S5000
  slices_S5000x4_S5000x1_0_2 : S5000x4.Slices ![0, 2] S5000x1
  reducesTo_S5000_S_d0 : S5000.ReducesTo [0] S_
  h_S_ : 0 < S_.numel
  slices_S5000x4_S5000x1_0_1 : S5000x4.Slices ![0, 1] S5000x1
  slices_S5000x4_S5000x1_0_3 : S5000x4.Slices ![0, 3] S5000x1

variable [Facts]

def fn {F : FTy → Type} [FloatOps F] (main_arg0 : FVec F S5000x4 .f32) (main_arg1 : FVec F S5000x81 .f32) (main_arg2 : FVec F S5000x81x4 .f32) : IVec S_ 1 :=
  let main_v0 : FVec F S5000x1 .f32 := (extractStridedSlice S5000x1 ![0, 0] · slices_S5000x4_S5000x1_0_0) main_arg0
  let main_v1 : FVec F S5000 .f32 := shapeCast S5000 main_v0 shapeCasts_S5000x1_S5000
  let main_v2 : FVec F S5000x1 .f32 := (extractStridedSlice S5000x1 ![0, 2] · slices_S5000x4_S5000x1_0_2) main_arg0
  let main_v3 : FVec F S5000 .f32 := shapeCast S5000 main_v2 shapeCasts_S5000x1_S5000
  let main_v4 : IVec S5000 1 := cmpf .ole main_v1 main_v3
  let main_c : IVec S_ 1 := constantI S_ 1 1#1
  let main_v5 : IVec S_ 1 := (fun x v => Host.reduce IntOp.andi x v reducesTo_S5000_S_d0 h_S_) main_v4 main_c
  let main_v6 : FVec F S5000x1 .f32 := (extractStridedSlice S5000x1 ![0, 1] · slices_S5000x4_S5000x1_0_1) main_arg0
  let main_v7 : FVec F S5000 .f32 := shapeCast S5000 main_v6 shapeCasts_S5000x1_S5000
  let main_v8 : FVec F S5000x1 .f32 := (extractStridedSlice S5000x1 ![0, 3] · slices_S5000x4_S5000x1_0_3) main_arg0
  let main_v9 : FVec F S5000 .f32 := shapeCast S5000 main_v8 shapeCasts_S5000x1_S5000
  let main_v10 : IVec S5000 1 := cmpf .ole main_v7 main_v9
  let main_c_0 : IVec S_ 1 := constantI S_ 1 1#1
  let main_v11 : IVec S_ 1 := (fun x v => Host.reduce IntOp.andi x v reducesTo_S5000_S_d0 h_S_) main_v10 main_c_0
  let main_v12 : IVec S_ 1 := andi main_v5 main_v11
  main_v12
-- ==== Kernel.lean ====
abbrev S5000x4 : Shape := ⟨2, ![5000, 4]⟩
abbrev S5000x81 : Shape := ⟨2, ![5000, 81]⟩
abbrev S5000x81x4 : Shape := ⟨3, ![5000, 81, 4]⟩
abbrev S5000x324 : Shape := ⟨2, ![5000, 324]⟩
abbrev S5000x1 : Shape := ⟨2, ![5000, 1]⟩
abbrev S5000 : Shape := ⟨1, ![5000]⟩
abbrev S_ : Shape := ⟨0, ![]⟩
abbrev S5120x4 : Shape := ⟨2, ![5120, 4]⟩
abbrev S5120x1 : Shape := ⟨2, ![5120, 1]⟩
abbrev S4x5120 : Shape := ⟨2, ![4, 5120]⟩
abbrev S1x5120 : Shape := ⟨2, ![1, 5120]⟩
abbrev S2x5120 : Shape := ⟨2, ![2, 5120]⟩
abbrev S8x5120 : Shape := ⟨2, ![8, 5120]⟩
abbrev S8x128 : Shape := ⟨2, ![8, 128]⟩
abbrev S5120x5120 : Shape := ⟨2, ![5120, 5120]⟩
abbrev S128x1 : Shape := ⟨2, ![128, 1]⟩
abbrev S128x5120 : Shape := ⟨2, ![128, 5120]⟩
abbrev S1x1x5120 : Shape := ⟨3, ![1, 1, 5120]⟩
abbrev S1 : Shape := ⟨1, ![1]⟩
abbrev S1x1x1 : Shape := ⟨3, ![1, 1, 1]⟩
abbrev S128x128 : Shape := ⟨2, ![128, 128]⟩
abbrev S1x128 : Shape := ⟨2, ![1, 128]⟩
abbrev S128 : Shape := ⟨1, ![128]⟩
abbrev S5120x128 : Shape := ⟨2, ![5120, 128]⟩
abbrev S6x128 : Shape := ⟨2, ![6, 128]⟩
abbrev S128x6 : Shape := ⟨2, ![128, 6]⟩
abbrev S100x6 : Shape := ⟨2, ![100, 6]⟩

abbrev nBuf : Space → Nat
  | .hbm => 36
  | .vmem => 19
  | .smem => 0
  | _ => 0

abbrev bufTy : (tb : Table) → Fin (tcTables nBuf tb) → BufTy
  | .hbm, ⟨0, _⟩ => ⟨S5000x4, .f32⟩
  | .hbm, ⟨1, _⟩ => ⟨S5000x81, .f32⟩
  | .hbm, ⟨2, _⟩ => ⟨S5000x81x4, .f32⟩
  | .hbm, ⟨3, _⟩ => ⟨S5000x324, .f32⟩
  | .hbm, ⟨4, _⟩ => ⟨S5000x4, .f32⟩
  | .hbm, ⟨5, _⟩ => ⟨S5000x4, .f32⟩
  | .hbm, ⟨6, _⟩ => ⟨S5000x1, .f32⟩
  | .hbm, ⟨7, _⟩ => ⟨S5000x1, .f32⟩
  | .hbm, ⟨8, _⟩ => ⟨S5000x1, .f32⟩
  | .hbm, ⟨9, _⟩ => ⟨S_, .i32⟩
  | .hbm, ⟨10, _⟩ => ⟨S_, .f32⟩
  | .hbm, ⟨11, _⟩ => ⟨S5120x4, .f32⟩
  | .hbm, ⟨12, _⟩ => ⟨S_, .f32⟩
  | .hbm, ⟨13, _⟩ => ⟨S_, .f32⟩
  | .hbm, ⟨14, _⟩ => ⟨S5120x1, .f32⟩
  | .hbm, ⟨15, _⟩ => ⟨S_, .i32⟩
  | .hbm, ⟨16, _⟩ => ⟨S_, .f32⟩
  | .hbm, ⟨17, _⟩ => ⟨S5120x4, .f32⟩
  | .hbm, ⟨18, _⟩ => ⟨S_, .i32⟩
  | .hbm, ⟨19, _⟩ => ⟨S_, .f32⟩
  | .hbm, ⟨20, _⟩ => ⟨S5120x1, .f32⟩
  | .hbm, ⟨21, _⟩ => ⟨S_, .i32⟩
  | .hbm, ⟨22, _⟩ => ⟨S_, .f32⟩
  | .hbm, ⟨23, _⟩ => ⟨S5120x1, .f32⟩
  | .hbm, ⟨24, _⟩ => ⟨S4x5120, .f32⟩
  | .hbm, ⟨25, _⟩ => ⟨S1x5120, .f32⟩
  | .hbm, ⟨26, _⟩ => ⟨S1x5120, .f32⟩
  | .hbm, ⟨27, _⟩ => ⟨S_, .f32⟩
  | .hbm, ⟨28, _⟩ => ⟨S2x5120, .f32⟩
  | .hbm, ⟨29, _⟩ => ⟨S8x5120, .f32⟩
  | .hbm, ⟨30, _⟩ => ⟨S4x5120, .f32⟩
  | .hbm, ⟨31, _⟩ => ⟨S1x5120, .f32⟩
  | .hbm, ⟨32, _⟩ => ⟨S8x128, .f32⟩
  | .hbm, ⟨33, _⟩ => ⟨S6x128, .f32⟩
  | .hbm, ⟨34, _⟩ => ⟨S128x6, .f32⟩
  | .hbm, ⟨35, _⟩ => ⟨S100x6, .f32⟩
  | .local _ .vmem, ⟨0, _⟩ => ⟨S5000x4, .f32⟩
  | .local _ .vmem, ⟨1, _⟩ => ⟨S5000x81, .f32⟩
  | .local _ .vmem, ⟨2, _⟩ => ⟨S5000x324, .f32⟩
  | .local _ .vmem, ⟨3, _⟩ => ⟨S5000x4, .f32⟩
  | .local _ .vmem, ⟨4, _⟩ => ⟨S5000x4, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5120x4, .f32⟩
  | .local _ .vmem, ⟨9, _⟩ => ⟨S5120x1, .f32⟩
  | .local _ .vmem, ⟨10, _⟩ => ⟨S4x5120, .f32⟩
  | .local _ .vmem, ⟨11, _⟩ => ⟨S1x5120, .f32⟩
  | .local _ .vmem, ⟨12, _⟩ => ⟨S8x5120, .f32⟩
  | .local _ .vmem, ⟨13, _⟩ => ⟨S8x128, .f32⟩
  | .local _ .vmem, ⟨14, _⟩ => ⟨S5120x5120, .i8⟩
  | .local _ .vmem, ⟨15, _⟩ => ⟨S5120x5120, .i8⟩
  | .local _ .vmem, ⟨16, _⟩ => ⟨S1x5120, .f32⟩
  | .local _ .vmem, ⟨17, _⟩ => ⟨S1x5120, .i8⟩
  | .local _ .vmem, ⟨18, _⟩ => ⟨S5120x1, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_cst : Ref sig .tc := ⟨.hbm, 12, rfl⟩
abbrev main_call1_v0 : Ref sig .tc := ⟨.hbm, 13, rfl⟩
abbrev main_v3 : Ref sig .tc := ⟨.hbm, 14, rfl⟩
abbrev main_c_0 : Ref sig .tc := ⟨.hbm, 15, rfl⟩
abbrev main_call2_v0 : Ref sig .tc := ⟨.hbm, 16, rfl⟩
abbrev main_v4 : Ref sig .tc := ⟨.hbm, 17, rfl⟩
abbrev main_c_1 : Ref sig .tc := ⟨.hbm, 18, rfl⟩
abbrev main_call3_v0 : Ref sig .tc := ⟨.hbm, 19, rfl⟩
abbrev main_v5 : Ref sig .tc := ⟨.hbm, 20, rfl⟩
abbrev main_c_2 : Ref sig .tc := ⟨.hbm, 21, rfl⟩
abbrev main_call4_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := .none

abbrev stage0_0 : Fin 1 → Memref sig .tc .vmem S5000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5000x81 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x324 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5000x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5000x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5000x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5000x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c40_i32 : BitVec 32 := 40#32
  let v16 : BitVec 32 := Scalar.addi c0_i32 c40_i32
  let c1_i32 : BitVec 32 := 1#32
  ⟨c0_i32, v16, c1_i32⟩
def k1_off1 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v65 : Index := Scalar.indexCast v64
  let c0_40 : Index := 0#32
  ![v65.toNat, 0]
def k1_off2 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v68 : Index := Scalar.indexCast v64
  let c1_41 : Index := 1#32
  ![v68.toNat, 1]
def k1_off3 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v71 : Index := Scalar.indexCast v64
  let c2_42 : Index := 2#32
  ![v71.toNat, 2]
def k1_off4 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v74 : Index := Scalar.indexCast v64
  let c3_43 : Index := 3#32
  ![v74.toNat, 3]
def k1_off5 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v77 : Index := Scalar.indexCast v64
  let c0_44 : Index := 0#32
  ![v77.toNat, 0]
def k1_off6 (k1_t1 : Fin k1_t1_loop.trips) : Fin 2 → Nat :=
  let c0_i32 : BitVec 32 := 0#32
  let c1_i32 : BitVec 32 := 1#32
  let arg11 : BitVec 32 := Scf.iv c0_i32 c1_i32 k1_t1
  let c128_i32 : BitVec 32 := 128#32
  let v64 : BitVec 32 := Scalar.muli arg11 c128_i32
  let v128 : Index := Scalar.indexCast v64
  let c0_50 : Index := 0#32
  ![v128.toNat, 0]
@[reducible] def k1_t2_loop : Scf.Loop 32 :=
  let c0_i32_27 : BitVec 32 := 0#32
  let c40_i32_28 : BitVec 32 := 40#32
  let v50 : BitVec 32 := Scalar.addi c0_i32_27 c40_i32_28
  let c1_i32_29 : BitVec 32 := 1#32
  ⟨c0_i32_27, v50, c1_i32_29⟩
def k1_off7 (k1_t2 : Fin k1_t2_loop.trips) : Fin 2 → Nat :=
  let c0_40 : Index := 0#32
  let c0_i32_27 : BitVec 32 := 0#32
  let c1_i32_29 : BitVec 32 := 1#32
  let arg11 : BitVec 32 := Scf.iv c0_i32_27 c1_i32_29 k1_t2
  let c128_i32 : BitVec 32 := 128#32
  let v64 : BitVec 32 := Scalar.muli arg11 c128_i32
  let v65 : Index := Scalar.indexCast v64
  ![0, v65.toNat]
def k1_off8 (k1_t2 : Fin k1_t2_loop.trips) : Fin 2 → Nat :=
  let c0_i32_27 : BitVec 32 := 0#32
  let c1_i32_29 : BitVec 32 := 1#32
  let arg11 : BitVec 32 := Scf.iv c0_i32_27 c1_i32_29 k1_t2
  let c128_i32 : BitVec 32 := 128#32
  let v64 : BitVec 32 := Scalar.muli arg11 c128_i32
  let v73 : Index := Scalar.indexCast v64
  let c0_43 : Index := 0#32
  ![v73.toNat, 0]
abbrev stage1_0 : Fin 1 → Memref sig .tc .vmem S5120x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5120x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x5120 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x5120 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S5000x4 : Shape := ⟨2, ![5000, 4]⟩
abbrev S5000x81 : Shape := ⟨2, ![5000, 81]⟩
abbrev S5000x81x4 : Shape := ⟨3, ![5000, 81, 4]⟩
abbrev S4 : Shape := ⟨1, ![4]⟩
abbrev S_ : Shape := ⟨0, ![]⟩
abbrev S5000 : Shape := ⟨1, ![5000]⟩
abbrev S5000x1 : Shape := ⟨2, ![5000, 1]⟩
abbrev S5000x2 : Shape := ⟨2, ![5000, 2]⟩
abbrev S1x4 : Shape := ⟨2, ![1, 4]⟩
abbrev S1x5000 : Shape := ⟨2, ![1, 5000]⟩
abbrev S5000x5000 : Shape := ⟨2, ![5000, 5000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 354
  | .vmem => 0
  | .smem => 0
  | _ => 0

abbrev hbmTy0_0 (i : Nat) : BufTy := match i % 128 with
  | 0 => ⟨S5000x4, .f32⟩
  | 1 => ⟨S5000x81, .f32⟩
  | 2 => ⟨S5000x81x4, .f32⟩
  | 3 => ⟨S4, .f32⟩
  | 4 => ⟨S4, .f32⟩
  | 5 => ⟨S5000x81, .i32⟩
  | 6 => ⟨S_, .f32⟩
  | 7 => ⟨S_, .i32⟩
  | 8 => ⟨S5000, .f32⟩
  | 9 => ⟨S5000, .i32⟩
  | 10 => ⟨S5000, .i32⟩
  | 11 => ⟨S_, .i32⟩
  | 12 => ⟨S5000, .i32⟩
  | 13 => ⟨S5000, .i1⟩
  | 14 => ⟨S_, .i32⟩
  | 15 => ⟨S5000, .i32⟩
  | 16 => ⟨S5000, .i32⟩
  | 17 => ⟨S5000, .i32⟩
  | 18 => ⟨S_, .i32⟩
  | 19 => ⟨S5000, .i32⟩
  | 20 => ⟨S5000, .i1⟩
  | 21 => ⟨S_, .i32⟩
  | 22 => ⟨S5000, .i32⟩
  | 23 => ⟨S5000, .i32⟩
  | 24 => ⟨S5000, .i32⟩
  | 25 => ⟨S5000x1, .i32⟩
  | 26 => ⟨S5000x1, .i32⟩
  | 27 => ⟨S5000x2, .i32⟩
  | 28 => ⟨S5000, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S_, .i32⟩
  | 37 => ⟨S5000, .i32⟩
  | 38 => ⟨S5000, .i1⟩
  | 39 => ⟨S_, .i32⟩
  | 40 => ⟨S5000, .i32⟩
  | 41 => ⟨S5000, .i32⟩
  | 42 => ⟨S5000, .i32⟩
  | 43 => ⟨S5000x1, .i32⟩
  | 44 => ⟨S5000x1, .i32⟩
  | 45 => ⟨S5000x2, .i32⟩
  | 46 => ⟨S5000x4, .f32⟩
  | 47 => ⟨S1x4, .f32⟩
  | 48 => ⟨S5000x4, .f32⟩
  | 49 => ⟨S5000x4, .f32⟩
  | 50 => ⟨S5000x1, .f32⟩
  | 51 => ⟨S5000, .f32⟩
  | 52 => ⟨S5000x1, .f32⟩
  | 53 => ⟨S5000, .f32⟩
  | 54 => ⟨S5000, .f32⟩
  | 55 => ⟨S5000x1, .f32⟩
  | 56 => ⟨S5000, .f32⟩
  | 57 => ⟨S5000x1, .f32⟩
  | 58 => ⟨S5000, .f32⟩
  | 59 => ⟨S5000, .f32⟩
  | 60 => ⟨S5000x1, .f32⟩
  | 61 => ⟨S5000, .f32⟩
  | 62 => ⟨S_, .f32⟩
  | 63 => ⟨S5000, .f32⟩
  | 64 => ⟨S5000, .f32⟩
  | 65 => ⟨S5000, .f32⟩
  | 66 => ⟨S5000x1, .f32⟩
  | 67 => ⟨S5000, .f32⟩
  | 68 => ⟨S_, .f32⟩
  | 69 => ⟨S5000, .f32⟩
  | 70 => ⟨S5000, .f32⟩
  | 71 => ⟨S5000, .f32⟩
  | 72 => ⟨S5000x1, .f32⟩
  | 73 => ⟨S5000, .f32⟩
  | 74 => ⟨S5000, .f32⟩
  | 75 => ⟨S5000, .f32⟩
  | 76 => ⟨S5000x1, .f32⟩
  | 77 => ⟨S5000, .f32⟩
  | 78 => ⟨S5000, .f32⟩
  | 79 => ⟨S5000, .f32⟩
  | 80 => ⟨S5000x1, .f32⟩
  | 81 => ⟨S5000, .f32⟩
  | 82 => ⟨S5000, .f32⟩
  | 83 => ⟨S5000, .f32⟩
  | 84 => ⟨S5000x1, .f32⟩
  | 85 => ⟨S5000, .f32⟩
  | 86 => ⟨S5000, .f32⟩
  | 87 => ⟨S5000, .f32⟩
  | 88 => ⟨S_, .f32⟩
  | 89 => ⟨S5000, .f32⟩
  | 90 => ⟨S5000, .f32⟩
  | 91 => ⟨S5000, .f32⟩
  | 92 => ⟨S_, .f32⟩
  | 93 => ⟨S5000, .f32⟩
  | 94 => ⟨S5000, .f32⟩
  | 95 => ⟨S5000, .f32⟩
  | 96 => ⟨S5000, .f32⟩
  | 97 => ⟨S5000, .f32⟩
  | 98 => ⟨S5000x1, .f32⟩
  | 99 => ⟨S5000x1, .f32⟩
  | 100 => ⟨S5000x1, .f32⟩
  | 101 => ⟨S5000x1, .f32⟩
  | 102 => ⟨S5000x4, .f32⟩
  | 103 => ⟨S1x4, .f32⟩
  | 104 => ⟨S5000x4, .f32⟩
  | 105 => ⟨S5000x4, .f32⟩
  | 106 => ⟨S5000x1, .f32⟩
  | 107 => ⟨S5000, .f32⟩
  | 108 => ⟨S_, .f32⟩
  | 109 => ⟨S_, .f32⟩
  | 110 => ⟨S_, .f32⟩
  | 111 => ⟨S5000, .f32⟩
  | 112 => ⟨S5000, .f32⟩
  | 113 => ⟨S_, .f32⟩
  | 114 => ⟨S5000, .f32⟩
  | 115 => ⟨S5000, .f32⟩
  | 116 => ⟨S5000x1, .f32⟩
  | 117 => ⟨S5000, .f32⟩
  | 118 => ⟨S_, .f32⟩
  | 119 => ⟨S_, .f32⟩
  | 120 => ⟨S_, .f32⟩
  | 121 => ⟨S5000, .f32⟩
  | 122 => ⟨S5000, .f32⟩
  | 123 => ⟨S_, .f32⟩
  | 124 => ⟨S5000, .f32⟩
  | 125 => ⟨S5000, .f32⟩
  | 126 => ⟨S5000x1, .f32⟩
  | 127 => ⟨S5000, .f32⟩
  | _ => ⟨S5000x4, .f32⟩

abbrev hbmTy0_1 (i : Nat) : BufTy := match i % 128 with
  | 0 => ⟨S_, .f32⟩
  | 1 => ⟨S_, .f32⟩
  | 2 => ⟨S_, .f32⟩
  | 3 => ⟨S5000, .f32⟩
  | 4 => ⟨S5000, .f32⟩
  | 5 => ⟨S_, .f32⟩
  | 6 => ⟨S5000, .f32⟩
  | 7 => ⟨S5000, .f32⟩
  | 8 => ⟨S5000x1, .f32⟩
  | 9 => ⟨S5000, .f32⟩
  | 10 => ⟨S_, .f32⟩
  | 11 => ⟨S_, .f32⟩
  | 12 => ⟨S_, .f32⟩
  | 13 => ⟨S5000, .f32⟩
  | 14 => ⟨S5000, .f32⟩
  | 15 => ⟨S_, .f32⟩
  | 16 => ⟨S5000, .f32⟩
  | 17 => ⟨S5000, .f32⟩
  | 18 => ⟨S5000x1, .f32⟩
  | 19 => ⟨S5000x1, .f32⟩
  | 20 => ⟨S5000x1, .f32⟩
  | 21 => ⟨S5000x1, .f32⟩
  | 22 => ⟨S5000x4, .f32⟩
  | 23 => ⟨S5000x4, .f32⟩
  | 24 => ⟨S_, .i32⟩
  | 25 => ⟨S5000, .i32⟩
  | 26 => ⟨S5000, .i1⟩
  | 27 => ⟨S_, .f32⟩
  | 28 => ⟨S5000, .f32⟩
  | 29 => ⟨S5000, .i1⟩
  | 30 => ⟨S5000, .i1⟩
  | 31 => ⟨S5000, .f32⟩
  | 32 => ⟨S5000x1, .f32⟩
  | 33 => ⟨S_, .f32⟩
  | 34 => ⟨S5000x1, .f32⟩
  | 35 => ⟨S5000x1, .f32⟩
  | 36 => ⟨S5000x4, .f32⟩
  | 37 => ⟨S5000x4, .f32⟩
  | 38 => ⟨S_, .f32⟩
  | 39 => ⟨S_, .f32⟩
  | 40 => ⟨S5000, .f32⟩
  | 41 => ⟨S5000, .f32⟩
  | 42 => ⟨S5000, .f32⟩
  | 43 => ⟨S5000, .i32⟩
  | 44 => ⟨S5000, .f32⟩
  | 45 => ⟨S5000, .i32⟩
  | 46 => ⟨S_, .i32⟩
  | 47 => ⟨S5000, .i32⟩
  | 48 => ⟨S5000, .i1⟩
  | 49 => ⟨S_, .i32⟩
  | 50 => ⟨S5000, .i32⟩
  | 51 => ⟨S5000, .i32⟩
  | 52 => ⟨S5000, .i32⟩
  | 53 => ⟨S5000x1, .i32⟩
  | 54 => ⟨S5000x4, .f32⟩
  | 55 => ⟨S_, .i32⟩
  | 56 => ⟨S5000, .i32⟩
  | 57 => ⟨S5000, .i1⟩
  | 58 => ⟨S_, .i32⟩
  | 59 => ⟨S5000, .i32⟩
  | 60 => ⟨S5000, .i32⟩
  | 61 => ⟨S5000, .i32⟩
  | 62 => ⟨S5000x1, .i32⟩
  | 63 => ⟨S5000, .f32⟩
  | 64 => ⟨S_, .i32⟩
  | 65 => ⟨S5000, .i32⟩
  | 66 => ⟨S5000, .i1⟩
  | 67 => ⟨S_, .i32⟩
  | 68 => ⟨S5000, .i32⟩
  | 69 => ⟨S5000, .i32⟩
  | 70 => ⟨S5000, .i32⟩
  | 71 => ⟨S5000x1, .i32⟩
  | 72 => ⟨S5000, .i1⟩
  | 73 => ⟨S5000x1, .f32⟩
  | 74 => ⟨S5000, .f32⟩
  | 75 => ⟨S5000x1, .f32⟩
  | 76 => ⟨S5000, .f32⟩
  | 77 => ⟨S5000x1, .f32⟩
  | 78 => ⟨S5000, .f32⟩
  | 79 => ⟨S5000x1, .f32⟩
  | 80 => ⟨S5000, .f32⟩
  | 81 => ⟨S5000, .f32⟩
  | 82 => ⟨S5000, .f32⟩
  | 83 => ⟨S5000, .f32⟩
  | 84 => ⟨S5000x1, .f32⟩
  | 85 => ⟨S1x5000, .f32⟩
  | 86 => ⟨S5000x5000, .f32⟩
  | 87 => ⟨S5000x5000, .f32⟩
  | 88 => ⟨S5000x5000, .f32⟩
  | 89 => ⟨S5000x1, .f32⟩
  | 90 => ⟨S1x5000, .f32⟩
  | 91 => ⟨S5000x5000, .f32⟩
  | 92 => ⟨S5000x5000, .f32⟩
  | 93 => ⟨S5000x5000, .f32⟩
  | 94 => ⟨S5000x1, .f32⟩
  | 95 => ⟨S1x5000, .f32⟩
  | 96 => ⟨S5000x5000, .f32⟩
  | 97 => ⟨S5000x5000, .f32⟩
  | 98 => ⟨S5000x5000, .f32⟩
  | 99 => ⟨S5000x1, .f32⟩
  | 100 => ⟨S1x5000, .f32⟩
  | 101 => ⟨S5000x5000, .f32⟩
  | 102 => ⟨S5000x5000, .f32⟩
  | 103 => ⟨S5000x5000, .f32⟩
  | 104 => ⟨S5000x5000, .f32⟩
  | 105 => ⟨S_, .f32⟩
  | 106 => ⟨S5000x5000, .f32⟩
  | 107 => ⟨S5000x5000, .f32⟩
  | 108 => ⟨S5000x5000, .f32⟩
  | 109 => ⟨S_, .f32⟩
  | 110 => ⟨S5000x5000, .f32⟩
  | 111 => ⟨S5000x5000, .f32⟩
  | 112 => ⟨S5000x5000, .f32⟩
  | 113 => ⟨S5000x1, .f32⟩
  | 114 => ⟨S1x5000, .f32⟩
  | 115 => ⟨S5000x5000, .f32⟩
  | 116 => ⟨S5000x5000, .f32⟩
  | 117 => ⟨S5000x5000, .f32⟩
  | 118 => ⟨S5000x5000, .f32⟩
  | 119 => ⟨S_, .f32⟩
  | 120 => ⟨S5000x5000, .f32⟩
  | 121 => ⟨S5000x5000, .f32⟩
  | 122 => ⟨S5000x5000, .f32⟩
  | 123 => ⟨S5000, .i32⟩
  | 124 => ⟨S_, .i32⟩
  | 125 => ⟨S_, .i32⟩
  | 126 => ⟨S5000x5000, .f32⟩
  | 127 => ⟨S5000, .i32⟩
  | _ => ⟨S5000x4, .f32⟩

abbrev hbmTy0_2 (i : Nat) : BufTy := match i % 128 with
  | 0 => ⟨S_, .i32⟩
  | 1 => ⟨S_, .i32⟩
  | 2 => ⟨S5000, .i1⟩
  | 3 => ⟨S_, .i32⟩
  | 4 => ⟨S_, .i1⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S1, .i1⟩
  | 14 => ⟨S_, .i1⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x5000, .f32⟩
  | 30 => ⟨S5000, .f32⟩
  | 31 => ⟨S_, .f32⟩
  | 32 => ⟨S5000, .f32⟩
  | 33 => ⟨S5000, .i1⟩
  | 34 => ⟨S_, .i32⟩
  | 35 => ⟨S5000, .i32⟩
  | 36 => ⟨S5000, .i1⟩
  | 37 => ⟨S5000, .i1⟩
  | 38 => ⟨S5000, .i1⟩
  | 39 => ⟨S5000, .i1⟩
  | 40 => ⟨S_, .i1⟩
  | 41 => ⟨S5000, .i1⟩
  | 42 => ⟨S5000, .i1⟩
  | 43 => ⟨S_, .i32⟩
  | 44 => ⟨S_, .i32⟩
  | 45 => ⟨S_, .f32⟩
  | 46 => ⟨S_, .f32⟩
  | 47 => ⟨S5000, .f32⟩
  | 48 => ⟨S5000, .f32⟩
  | 49 => ⟨S100, .f32⟩
  | 50 => ⟨S100, .i32⟩
  | 51 => ⟨S_, .i32⟩
  | 52 => ⟨S100, .i32⟩
  | 53 => ⟨S100, .i1⟩
  | 54 => ⟨S_, .i32⟩
  | 55 => ⟨S100, .i32⟩
  | 56 => ⟨S100, .i32⟩
  | 57 => ⟨S100, .i32⟩
  | 58 => ⟨S100x1, .i32⟩
  | 59 => ⟨S100, .i32⟩
  | 60 => ⟨S_, .f32⟩
  | 61 => ⟨S100, .f32⟩
  | 62 => ⟨S100, .i1⟩
  | 63 => ⟨S100, .f32⟩
  | 64 => ⟨S100x1, .f32⟩
  | 65 => ⟨S_, .i32⟩
  | 66 => ⟨S100, .i32⟩
  | 67 => ⟨S100, .i1⟩
  | 68 => ⟨S_, .i32⟩
  | 69 => ⟨S100, .i32⟩
  | 70 => ⟨S100, .i32⟩
  | 71 => ⟨S100, .i32⟩
  | 72 => ⟨S100x1, .i32⟩
  | 73 => ⟨S100x4, .f32⟩
  | 74 => ⟨S_, .i32⟩
  | 75 => ⟨S100, .i32⟩
  | 76 => ⟨S100, .i1⟩
  | 77 => ⟨S_, .i32⟩
  | 78 => ⟨S100, .i32⟩
  | 79 => ⟨S100, .i32⟩
  | 80 => ⟨S100, .i32⟩
  | 81 => ⟨S100x1, .i32⟩
  | 82 => ⟨S100, .i32⟩
  | 83 => ⟨S100, .f32⟩
  | 84 => ⟨S100x1, .f32⟩
  | 85 => ⟨S_, .i32⟩
  | 86 => ⟨S100, .i32⟩
  | 87 => ⟨S100, .i1⟩
  | 88 => ⟨S_, .i32⟩
  | 89 => ⟨S100, .i32⟩
  | 90 => ⟨S100, .i32⟩
  | 91 => ⟨S100, .i32⟩
  | 92 => ⟨S100x1, .i32⟩
  | 93 => ⟨S100, .f32⟩
  | 94 => ⟨S100x1, .f32⟩
  | 95 => ⟨S100x6, .f32⟩
  | 96 => ⟨S100x6, .f32⟩
  | 97 => ⟨S100x6, .f32⟩
  | _ => ⟨S5000x4, .f32⟩

abbrev hbmTy (i : Nat) : BufTy := match i / 128 with
  | 0 => hbmTy0_0 i
  | 1 => hbmTy0_1 i
  | 2 => hbmTy0_2 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_12 : Ref sig .tc := ⟨.hbm, 108, rfl⟩
abbrev main_cst_13 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_cst_15 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_16 : Ref sig .tc := ⟨.hbm, 128, rfl⟩
abbrev main_cst_17 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_18 : Ref sig .tc := ⟨.hbm, 138, rfl⟩
abbrev main_cst_19 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_20 : Ref sig .tc := ⟨.hbm, 152, rfl⟩
abbrev main_v103 : Ref sig .tc := ⟨.hbm, 153, rfl⟩
abbrev main_v104 : Ref sig .tc := ⟨.hbm, 154, rfl⟩
abbrev main_cst_21 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_22 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_23 : Ref sig .tc := ⟨.hbm, 166, rfl⟩
abbrev main_call6_v0 : Ref sig .tc := ⟨.hbm, 167, rfl⟩
abbrev main_call6_v1 : Ref sig .tc := ⟨.hbm, 168, rfl⟩
abbrev main_v114 : Ref sig .tc := ⟨.hbm, 169, rfl⟩
abbrev main_v115 : Ref sig .tc := ⟨.hbm, 170, rfl⟩
abbrev main_call7_v0 : Ref sig .tc := ⟨.hbm, 171, rfl⟩
abbrev main_call7_v1_0 : Ref sig .tc := ⟨.hbm, 172, rfl⟩
abbrev main_v116 : Ref sig .tc := ⟨.hbm, 173, rfl⟩
abbrev main_c_24 : Ref sig .tc := ⟨.hbm, 174, rfl⟩
abbrev main_v117 : Ref sig .tc := ⟨.hbm, 175, rfl⟩
abbrev main_v118 : Ref sig .tc := ⟨.hbm, 176, rfl⟩
abbrev main_c_25 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_26 : Ref sig .tc := ⟨.hbm, 183, rfl⟩
abbrev main_v124 : Ref sig .tc := ⟨.hbm, 184, rfl⟩
abbrev main_v125 : Ref sig .tc := ⟨.hbm, 185, rfl⟩
abbrev main_c_27 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_28 : Ref sig .tc := ⟨.hbm, 192, rfl⟩
abbrev main_v131 : Ref sig .tc := ⟨.hbm, 193, rfl⟩
abbrev main_v132 : Ref sig .tc := ⟨.hbm, 194, rfl⟩
abbrev main_c_29 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_30 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_31 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_32 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_c_33 : Ref sig .tc := ⟨.hbm, 252, rfl⟩
abbrev main_c_34 : Ref sig .tc := ⟨.hbm, 253, rfl⟩
abbrev main_v186_0 : Ref sig .tc := ⟨.hbm, 254, rfl⟩
abbrev main_v186_1 : Ref sig .tc := ⟨.hbm, 255, rfl⟩
abbrev main_v186_2 : Ref sig .tc := ⟨.hbm, 256, rfl⟩
abbrev main_v186_3 : Ref sig .tc := ⟨.hbm, 257, rfl⟩
abbrev main_v186_4 : Ref sig .tc := ⟨.hbm, 258, rfl⟩
abbrev main_while0c_c_49 : Ref sig .tc := ⟨.hbm, 259, rfl⟩
abbrev main_while0c_v226 : Ref sig .tc := ⟨.hbm, 260, rfl⟩
abbrev main_while0b_c_49 : Ref sig .tc := ⟨.hbm, 261, rfl⟩
abbrev main_while0b_v226 : Ref sig .tc := ⟨.hbm, 262, rfl⟩
abbrev main_while0b_c_50 : Ref sig .tc := ⟨.hbm, 263, rfl⟩
abbrev main_while0b_v227 : Ref sig .tc := ⟨.hbm, 264, rfl⟩
abbrev main_while0b_v228 : Ref sig .tc := ⟨.hbm, 265, rfl⟩
abbrev main_while0b_c_51 : Ref sig .tc := ⟨.hbm, 266, rfl⟩
abbrev main_while0b_v229 : Ref sig .tc := ⟨.hbm, 267, rfl⟩
abbrev main_while0b_v230 : Ref sig .tc := ⟨.hbm, 268, rfl⟩
abbrev main_while0b_v231 : Ref sig .tc := ⟨.hbm, 269, rfl⟩
abbrev main_while0b_v232 : Ref sig .tc := ⟨.hbm, 270, rfl⟩
abbrev main_while0b_v233 : Ref sig .tc := ⟨.hbm, 271, rfl⟩
abbrev main_while0b_c_52 : Ref sig .tc := ⟨.hbm, 272, rfl⟩
abbrev main_while0b_v234 : Ref sig .tc := ⟨.hbm, 273, rfl⟩
abbrev main_while0b_c_53 : Ref sig .tc := ⟨.hbm, 274, rfl⟩
abbrev main_while0b_v235 : Ref sig .tc := ⟨.hbm, 275, rfl⟩
abbrev main_while0b_v236 : Ref sig .tc := ⟨.hbm, 276, rfl⟩
abbrev main_while0b_c_54 : Ref sig .tc := ⟨.hbm, 277, rfl⟩
abbrev main_while0b_c_55 : Ref sig .tc := ⟨.hbm, 278, rfl⟩
abbrev main_while0b_v237 : Ref sig .tc := ⟨.hbm, 279, rfl⟩
abbrev main_while0b_c_56 : Ref sig .tc := ⟨.hbm, 280, rfl⟩
abbrev main_while0b_c_57 : Ref sig .tc := ⟨.hbm, 281, rfl⟩
abbrev main_while0b_v238 : Ref sig .tc := ⟨.hbm, 282, rfl⟩
abbrev main_while0b_c_58 : Ref sig .tc := ⟨.hbm, 283, rfl⟩
abbrev main_while0b_v239 : Ref sig .tc := ⟨.hbm, 284, rfl⟩
abbrev main_while0b_v240 : Ref sig .tc := ⟨.hbm, 285, rfl⟩
abbrev main_while0b_v241 : Ref sig .tc := ⟨.hbm, 286, rfl⟩
abbrev main_while0b_cst_59 : Ref sig .tc := ⟨.hbm, 287, rfl⟩
abbrev main_while0b_v242 : Ref sig .tc := ⟨.hbm, 288, rfl⟩
abbrev main_while0b_v243 : Ref sig .tc := ⟨.hbm, 289, rfl⟩
abbrev main_while0b_v244 : Ref sig .tc := ⟨.hbm, 290, rfl⟩
abbrev main_while0b_v245 : Ref sig .tc := ⟨.hbm, 291, rfl⟩
abbrev main_while0b_v246 : Ref sig .tc := ⟨.hbm, 292, rfl⟩
abbrev main_while0b_v247 : Ref sig .tc := ⟨.hbm, 293, rfl⟩
abbrev main_while0b_v248 : Ref sig .tc := ⟨.hbm, 294, rfl⟩
abbrev main_while0b_v249 : Ref sig .tc := ⟨.hbm, 295, rfl⟩
abbrev main_while0b_c_60 : Ref sig .tc := ⟨.hbm, 296, rfl⟩
abbrev main_while0b_call8_v0 : Ref sig .tc := ⟨.hbm, 297, rfl⟩
abbrev main_while0b_v250 : Ref sig .tc := ⟨.hbm, 298, rfl⟩
abbrev main_while0b_c_61 : Ref sig .tc := ⟨.hbm, 299, rfl⟩
abbrev main_while0b_v251 : Ref sig .tc := ⟨.hbm, 300, rfl⟩
abbrev main_cst_35 : Ref sig .tc := ⟨.hbm, 301, rfl⟩
abbrev main_call9_v0 : Ref sig .tc := ⟨.hbm, 302, rfl⟩
abbrev main_call9_v1 : Ref sig .tc := ⟨.hbm, 303, rfl⟩
abbrev main_v187 : Ref sig .tc := ⟨.hbm, 304, rfl⟩
abbrev main_values : Ref sig .tc := ⟨.hbm, 305, rfl⟩
abbrev main_indices : Ref sig .tc := ⟨.hbm, 306, rfl⟩
abbrev main_c_36 : Ref sig .tc := ⟨.hbm, 307, rfl⟩
abbrev main_v188 : Ref sig .tc := ⟨.hbm, 308, rfl⟩
abbrev main_v189 : Ref sig .tc := ⟨.hbm, 309, rfl⟩
abbrev main_c_37 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_cst_38 : Ref sig .tc := ⟨.hbm, 316, rfl⟩
abbrev main_v195 : Ref sig .tc := ⟨.hbm, 317, rfl⟩
abbrev main_v196 : Ref sig .tc := ⟨.hbm, 318, rfl⟩
abbrev main_v197 : Ref sig .tc := ⟨.hbm, 319, rfl⟩
abbrev main_v198 : Ref sig .tc := ⟨.hbm, 320, rfl⟩
abbrev main_c_39 : Ref sig .tc := ⟨.hbm, 321, rfl⟩
abbrev main_v199 : Ref sig .tc := ⟨.hbm, 322, rfl⟩
abbrev main_v200 : Ref sig .tc := ⟨.hbm, 323, rfl⟩
abbrev main_c_40 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_c_41 : Ref sig .tc := ⟨.hbm, 330, rfl⟩
abbrev main_v206 : Ref sig .tc := ⟨.hbm, 331, rfl⟩
abbrev main_v207 : Ref sig .tc := ⟨.hbm, 332, rfl⟩
abbrev main_c_42 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_c_43 : Ref sig .tc := ⟨.hbm, 341, rfl⟩
abbrev main_v215 : Ref sig .tc := ⟨.hbm, 342, rfl⟩
abbrev main_v216 : Ref sig .tc := ⟨.hbm, 343, rfl⟩
abbrev main_c_44 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩

abbrev nD : Nat := 1
abbrev τ : Topo := Topo.v7x

variable {F : FTy → Type} [FloatOps F]

abbrev main_while0_count : Scf.Loop 32 := ⟨0#32, 5000#32, 1#32⟩
-- ==== Proof.PI.Common.lean ====
/-
  Shared definitions for the run of the kernel program: the resource algebra, and what the first kernel (the per-box
  stage) writes into each of its five results, as functions of its three inputs.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Exec
public import Idealize.ShloMosaic.Lib.Pipeline.Sound

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra: rounds over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- Calls are bounded by natural numbers. -/
abbrev 𝒱₀ : Variants := Variants.nat

/-- The whole buffer `b` at contents `f`. -/
abbrev pt (c : Dev nD) (b : Ref sig .tc) (f : Buf (Elt F) ((c : Thread nD τ).loc b)) : sProp 𝕄 :=
  (c : Thread nD τ).loc b ↦{fullShare} f

/-! ### The per-box stage: what it computes from the boxes `x`, the class probabilities `p` and the offsets `d` -/

/-- A column of the boxes, as the stage reads it. -/
def colA (o : Fin 2 → Nat) (h : ∀ a, o a + S5000x1.size a ≤ S5000x4.size a) (x : Vec F S5000x4 .f32) : Vec F S5000x1 .f32 :=
  (Memref.whole cc0_stg0_0 : Memref sig .tc _ _ _).view.readAt (Elt F) (Rect.unit (s := S5000x4) o S5000x1.size h).toLoadRect x

def a76 (x : Vec F S5000x4 .f32) : Vec F S5000x1 .f32 := colA ![0, 0] inb_S5000x4_S5000x1_0_0 x
def a77 (x : Vec F S5000x4 .f32) : Vec F S5000x1 .f32 := colA ![0, 1] inb_S5000x4_S5000x1_0_1 x
def a78 (x : Vec F S5000x4 .f32) : Vec F S5000x1 .f32 := colA ![0, 2] inb_S5000x4_S5000x1_0_2 x
def a79 (x : Vec F S5000x4 .f32) : Vec F S5000x1 .f32 := colA ![0, 3] inb_S5000x4_S5000x1_0_3 x

/-- The four scaled offsets of each box's best class. -/
def a51 (p : Vec F S5000x81 .f32) (d : Vec F S5000x324 .f32) : FVec F S5000x1 .f32 := k0_pay10 k0_pay8 (k0_pay9 p d)
def a59 (p : Vec F S5000x81 .f32) (d : Vec F S5000x324 .f32) : FVec F S5000x1 .f32 := k0_pay11 k0_pay8 (k0_pay9 p d)
def a67 (p : Vec F S5000x81 .f32) (d : Vec F S5000x324 .f32) : FVec F S5000x1 .f32 := k0_pay12 k0_pay8 (k0_pay9 p d)
def a75 (p : Vec F S5000x81 .f32) (d : Vec F S5000x324 .f32) : FVec F S5000x1 .f32 := k0_pay13 k0_pay8 (k0_pay9 p d)

/-- The four clipped, rounded coordinates of each box. -/
def a103 (x : Vec F S5000x4 .f32) (p : Vec F S5000x81 .f32) (d : Vec F S5000x324 .f32) : FVec F S5000x1 .f32 :=
  k0_pay20 (a59 p d) (a75 p d) (a77 x) (a79 x)
def a110 (x : Vec F S5000x4 .f32) (p : Vec F S5000x81 .f32) (d : Vec F S5000x324 .f32) : FVec F S5000x1 .f32 :=
  k0_pay21 (a51 p d) (a67 p d) (a76 x) (a78 x)
def a117 (x : Vec F S5000x4 .f32) (p : Vec F S5000x81 .f32) (d : Vec F S5000x324 .f32) : FVec F S5000x1 .f32 :=
  k0_pay22 (a59 p d) (a75 p d) (a77 x) (a79 x)
def a124 (x : Vec F S5000x4 .f32) (p : Vec F S5000x81 .f32) (d : Vec F S5000x324 .f32) : FVec F S5000x1 .f32 :=
  k0_pay23 (a51 p d) (a67 p d) (a76 x) (a78 x)

/-- The refined boxes, -/
def outA3 (x : Vec F S5000x4 .f32) (p : Vec F S5000x81 .f32) (d : Vec F S5000x324 .f32) : FVec F S5000x4 .f32 :=
  k0_pay1 (a103 x p d) (a110 x p d) (a117 x p d) (a124 x p d) k0_pay24
/-- the same moved by their class, -/
def outA4 (x : Vec F S5000x4 .f32) (p : Vec F S5000x81 .f32) (d : Vec F S5000x324 .f32) : FVec F S5000x4 .f32 :=
  k0_pay3 (k0_pay6 p) (a103 x p d) (a110 x p d) (a117 x p d) (a124 x p d) k0_pay24
/-- the class as a float, -/
def outA5 (p : Vec F S5000x81 .f32) : FVec F S5000x1 .f32 := k0_pay2 (F := F) (k0_pay6 p)
/-- the score, -/
def outA6 (p : Vec F S5000x81 .f32) : FVec F S5000x1 .f32 := k0_pay5 p
/-- and the score where the box is kept, -1 elsewhere. -/
def outA7 (p : Vec F S5000x81 .f32) : FVec F S5000x1 .f32 := k0_pay4 (k0_pay5 p) (k0_pay6 p)

end Cert.Proof.PI

end
-- ==== Proof.PI.BodyA.lean ====
/-
  The first kernel's body: from its inputs' staging buffers and five result buffers at any contents, it ends with the
  inputs unchanged and the results at the values `Common.lean` names.
-/
module

public import proofs.«01_k».proof.Proof.PI.Common

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

theorem zero2 : (![0, 0] : Fin 2 → Nat) = fun _ => 0 := by funext a; fin_cases a <;> rfl

abbrev r4 : Rect S5000x4 := Rect.unit (s := S5000x4) ![0, 0] S5000x4.size inb_S5000x4_S5000x4_0_0
abbrev r1 : Rect S5000x1 := Rect.unit (s := S5000x1) ![0, 0] S5000x1.size inb_S5000x1_S5000x1_0_0

theorem rdA1 (p : Vec F S5000x81 .f32) : (Memref.whole cc0_stg1_0 : Memref sig .tc _ _ _).view.readAt (Elt F)
    (Rect.unit (s := S5000x81) ![0, 0] S5000x81.size inb_S5000x81_S5000x81_0_0).toLoadRect p = p :=
  Memref.readAt_unit_zero (Elt F) cc0_stg1_0 zero2 _ p
theorem rdA2 (p : Vec F S5000x324 .f32) : (Memref.whole cc0_stg2_0 : Memref sig .tc _ _ _).view.readAt (Elt F)
    (Rect.unit (s := S5000x324) ![0, 0] S5000x324.size inb_S5000x324_S5000x324_0_0).toLoadRect p = p :=
  Memref.readAt_unit_zero (Elt F) cc0_stg2_0 zero2 _ p
theorem wrA3 (f w : Vec F S5000x4 .f32) : ((Memref.whole cc0_stg3_0 : Memref sig .tc _ _ _).access
    (Rect.unit (s := S5000x4) ![0, 0] S5000x4.size inb_S5000x4_S5000x4_0_0) : View sig .tc _ _ _).write (Elt F) f w Finset.univ = w :=
  Memref.write_access_unit_zero_univ (Elt F) cc0_stg3_0 zero2 _ f w
theorem wrA4 (f w : Vec F S5000x4 .f32) : ((Memref.whole cc0_stg4_0 : Memref sig .tc _ _ _).access
    (Rect.unit (s := S5000x4) ![0, 0] S5000x4.size inb_S5000x4_S5000x4_0_0) : View sig .tc _ _ _).write (Elt F) f w Finset.univ = w :=
  Memref.write_access_unit_zero_univ (Elt F) cc0_stg4_0 zero2 _ f w
theorem wrA5 (f w : Vec F S5000x1 .f32) : ((Memref.whole cc0_stg5_0 : Memref sig .tc _ _ _).access
    (Rect.unit (s := S5000x1) ![0, 0] S5000x1.size inb_S5000x1_S5000x1_0_0) : View sig .tc _ _ _).write (Elt F) f w Finset.univ = w :=
  Memref.write_access_unit_zero_univ (Elt F) cc0_stg5_0 zero2 _ f w
theorem wrA6 (f w : Vec F S5000x1 .f32) : ((Memref.whole cc0_stg6_0 : Memref sig .tc _ _ _).access
    (Rect.unit (s := S5000x1) ![0, 0] S5000x1.size inb_S5000x1_S5000x1_0_0) : View sig .tc _ _ _).write (Elt F) f w Finset.univ = w :=
  Memref.write_access_unit_zero_univ (Elt F) cc0_stg6_0 zero2 _ f w
theorem wrA7 (f w : Vec F S5000x1 .f32) : ((Memref.whole cc0_stg7_0 : Memref sig .tc _ _ _).access
    (Rect.unit (s := S5000x1) ![0, 0] S5000x1.size inb_S5000x1_S5000x1_0_0) : View sig .tc _ _ _).write (Elt F) f w Finset.univ = w :=
  Memref.write_access_unit_zero_univ (Elt F) cc0_stg7_0 zero2 _ f w

/-- The first kernel's body run once. -/
theorem body_a (c : Dev nD) (x : Vec F S5000x4 .f32) (p : Vec F S5000x81 .f32) (d : Vec F S5000x324 .f32)
    (f3 f4 : Vec F S5000x4 .f32) (f5 f6 f7 : Vec F S5000x1 .f32) (K : PUnit → sProp 𝕄) :
    iprop((pt c cc0_stg0_0 x ∗ pt c cc0_stg1_0 p ∗ pt c cc0_stg2_0 d ∗ pt c cc0_stg3_0 f3 ∗ pt c cc0_stg4_0 f4
        ∗ pt c cc0_stg5_0 f5 ∗ pt c cc0_stg6_0 f6 ∗ pt c cc0_stg7_0 f7)
      ∗ ((pt c cc0_stg0_0 x ∗ pt c cc0_stg1_0 p ∗ pt c cc0_stg2_0 d ∗ pt c cc0_stg3_0 (outA3 x p d) ∗ pt c cc0_stg4_0 (outA4 x p d)
        ∗ pt c cc0_stg5_0 (outA5 p) ∗ pt c cc0_stg6_0 (outA6 p) ∗ pt c cc0_stg7_0 (outA7 p)) -∗ K ⟨⟩))
      ⊢ wp frame (wpE (defs₀ (F := F)) 𝒱₀ (c : Thread nD τ) none) Set.univ
          (cc0__stage_a (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)) K := by
  simp only [cc0__stage_a_eq_skeleton]; unfold cc0__stage_a_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨⟨Hx, Hp, Hd, H3, H4, H5, H6, H7⟩, Hk⟩
  iapply (wp_load 𝒱₀ (c : Thread nD τ) none Set.univ (m := Memref.whole cc0_stg1_0) (Finset.subset_univ _)) $$ Hp; iintro Hp
  rw [rdA1]
  iapply (wp_load 𝒱₀ (c : Thread nD τ) none Set.univ (m := Memref.whole cc0_stg2_0) (Finset.subset_univ _)) $$ Hd; iintro Hd
  rw [rdA2]
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg3_0) (Finset.subset_univ _)) $$ H3; iintro H3
  iapply (wp_store 𝒱₀ (c : Thread nD τ) none Set.univ (m := Memref.whole cc0_stg3_0) (r := r4) (Mk := Finset.univ) (Finset.subset_univ _)) $$ H3; iintro H3
  rw [wrA3]
  iapply (wp_load 𝒱₀ (c : Thread nD τ) none Set.univ (m := Memref.whole cc0_stg4_0) (Finset.subset_univ _)) $$ H4; iintro H4
  iapply (wp_store 𝒱₀ (c : Thread nD τ) none Set.univ (m := Memref.whole cc0_stg4_0) (r := r4) (Mk := Finset.univ) (Finset.subset_univ _)) $$ H4; iintro H4
  rw [wrA4]
  iapply (wp_load 𝒱₀ (c : Thread nD τ) none Set.univ (m := Memref.whole cc0_stg5_0) (Finset.subset_univ _)) $$ H5; iintro H5
  iapply (wp_store 𝒱₀ (c : Thread nD τ) none Set.univ (m := Memref.whole cc0_stg5_0) (r := r1) (Mk := Finset.univ) (Finset.subset_univ _)) $$ H5; iintro H5
  rw [wrA5]
  iapply (wp_load 𝒱₀ (c : Thread nD τ) none Set.univ (m := Memref.whole cc0_stg6_0) (Finset.subset_univ _)) $$ H6; iintro H6
  iapply (wp_store 𝒱₀ (c : Thread nD τ) none Set.univ (m := Memref.whole cc0_stg6_0) (r := r1) (Mk := Finset.univ) (Finset.subset_univ _)) $$ H6; iintro H6
  rw [wrA6]
  iapply (wp_load 𝒱₀ (c : Thread nD τ) none Set.univ (m := Memref.whole cc0_stg7_0) (Finset.subset_univ _)) $$ H7; iintro H7
  iapply (wp_store 𝒱₀ (c : Thread nD τ) none Set.univ (m := Memref.whole cc0_stg7_0) (r := r1) (Mk := Finset.univ) (Finset.subset_univ _)) $$ H7; iintro H7
  rw [wrA7]
  rw [wp_ret]; imodintro
  iapply Hk
  isplitl [Hx]; · iexact Hx
  isplitl [Hp]; · iexact Hp
  isplitl [Hd]; · iexact Hd
  isplitl [H3]; · iexact H3
  isplitl [H4]; · iexact H4
  isplitl [H5]; · iexact H5
  isplitl [H6]; · iexact H6
  iexact H7

end Cert.Proof.PI

end
-- ==== Proof.PI.CommonB.lean ====
/-
  What the second kernel (suppression and selection) computes, as functions of its five inputs: the two 0/1 matrices
  it builds 128 rows at a time, the suppression loop's carried rows, the row of places, the same as a column, the result.
-/
module

public import proofs.«01_k».proof.Proof.PI.Common
public import Idealize.ShloMosaic.Lib.Pointwise.Index
public import Idealize.ShloMosaic.Lib.Pipeline.ValueKit

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

section Values

variable (b0 : Vec F S5120x4 .f32) (b1 : Vec F S5120x1 .f32) (b2 : Vec F S4x5120 .f32) (b3 : Vec F S1x5120 .f32)
  (b4 : Vec F S8x5120 .f32)

/-- A row of the transposed boxes, as the kernel reads it. -/
def rowB (o : Fin 2 → Nat) (h : ∀ a, o a + S1x5120.size a ≤ S4x5120.size a) : Vec F S1x5120 .f32 :=
  (Memref.whole cc1_stg2_0 : Memref sig .tc _ _ _).view.readAt (Elt F) (Rect.unit (s := S4x5120) o S1x5120.size h).toLoadRect b2

/-- 128 rows of one column of the boxes, as the kernel reads them. -/
def colB (o : Fin 2 → Nat) (h : ∀ a, o a + S128x1.size a ≤ S5120x4.size a) : Vec F S128x1 .f32 :=
  (Memref.whole cc1_stg0_0 : Memref sig .tc _ _ _).view.readAt (Elt F) (Rect.unit (s := S5120x4) o S128x1.size h).toLoadRect b0

/-- 128 rows of the scores' column, as the kernel reads them. -/
def scoB (o : Fin 2 → Nat) (h : ∀ a, o a + S128x1.size a ≤ S5120x1.size a) : Vec F S128x1 .f32 :=
  (Memref.whole cc1_stg1_0 : Memref sig .tc _ _ _).view.readAt (Elt F) (Rect.unit (s := S5120x1) o S128x1.size h).toLoadRect b1

def w5 : Vec F S1x5120 .f32 := rowB b2 ![0, 0] inb_S4x5120_S1x5120_0_0
def w7 : Vec F S1x5120 .f32 := rowB b2 ![1, 0] inb_S4x5120_S1x5120_1_0
def w9 : Vec F S1x5120 .f32 := rowB b2 ![2, 0] inb_S4x5120_S1x5120_2_0
def w11 : Vec F S1x5120 .f32 := rowB b2 ![3, 0] inb_S4x5120_S1x5120_3_0

/-- The overlap test of 128 boxes against all of them. -/
def ovl (k : Fin k1_t1_loop.trips) : IVec S128x5120 1 :=
  k1_pay7 (k1_pay12 (w5 b2)) (k1_pay13 (w7 b2)) (k1_pay14 (w9 b2)) (k1_pay15 (w11 b2)) (k1_pay16 (w5 b2) (w7 b2) (w9 b2) (w11 b2))
    (colB b0 (k1_off1 k) (k1_off1_inb k)) (colB b0 (k1_off2 k) (k1_off2_inb k)) (colB b0 (k1_off3 k) (k1_off3_inb k))
    (colB b0 (k1_off4 k) (k1_off4_inb k))

/-- 128 rows of the suppression matrix, -/
def chM (k : Fin k1_t1_loop.trips) : Vec F S128x5120 .i8 :=
  k1_pay18 b3 (k1_pay5 (scoB b1 (k1_off5 k) (k1_off5_inb k))) (k1_pay6 0#32 1#32 k) (ovl b0 b2 k)
    (k1_pay8 (scoB b1 (k1_off5 k) (k1_off5_inb k))) (k1_pay9 (k1_pay10 b3))

/-- and of the precedence matrix. -/
def chP (k : Fin k1_t1_loop.trips) : Vec F S128x5120 .i8 :=
  k1_pay19 b3 (k1_pay5 (scoB b1 (k1_off5 k) (k1_off5_inb k))) (k1_pay6 0#32 1#32 k)
    (k1_pay8 (scoB b1 (k1_off5 k) (k1_off5_inb k))) (k1_pay9 (k1_pay10 b3))

theorem trips1 : k1_t1_loop.trips = 40 := by decide +kernel
theorem trips2 : k1_t2_loop.trips = 40 := by decide +kernel

/-- The trip that writes row `i`. -/
def tripOf1 (i : Fin 5120) : Fin k1_t1_loop.trips := ⟨i.val / 128, by have := trips1; have := i.isLt; omega⟩
def tripOf2 (i : Fin 5120) : Fin k1_t2_loop.trips := ⟨i.val / 128, by have := trips2; have := i.isLt; omega⟩
/-- Its row of the trip's 128. -/
def rowOf (i : Fin 5120) : Fin 128 := ⟨i.val % 128, Nat.mod_lt _ (by decide)⟩

/-- The whole suppression matrix, -/
def matM : Vec F S5120x5120 .i8 := fun i => chM b0 b1 b2 b3 (tripOf1 (i 0)) (ix2 (rowOf (i 0)) (i 1))
/-- and the whole precedence matrix. -/
def matP : Vec F S5120x5120 .i8 := fun i => chP b1 b3 (tripOf1 (i 0)) (ix2 (rowOf (i 0)) (i 1))

end Values

/-- The suppression loop's two carried rows after at most `k` more passes, from a row of scores, a row of 0/1 and the
    flag that tells whether the last pass changed anything. -/
def wh (v3 : IVec S1x5120 1) (v1 : FVec F S1x5120 .f32) (M : Vec F S5120x5120 .i8) :
    ℕ → Vec F S1x5120 .f32 → Vec F S1x5120 .i8 → BitVec 1 → Vec F S1x5120 .f32 × Vec F S1x5120 .i8
  | 0, t, a, _ => (t, a)
  | k + 1, t, a, fl =>
    if fl = 1#1 then wh v3 v1 M k (k1_pay3 v3 v1 a M) (k1_pay4 v3 v1 a M)
      (Scalar.cmpf .ogt (k1_pay2 v3 v1 t a M) (Scalar.ofBits .f32 0x00000000#32))
    else (t, a)

section Out

variable (b0 : Vec F S5120x4 .f32) (b1 : Vec F S5120x1 .f32) (b2 : Vec F S4x5120 .f32) (b3 : Vec F S1x5120 .f32)
  (b4 : Vec F S8x5120 .f32)

/-- What the loop leaves. -/
def whEnd : Vec F S1x5120 .f32 × Vec F S1x5120 .i8 :=
  wh (k1_pay11 b3) (k1_pay10 b3) (matM b0 b1 b2 b3) 5122 (k1_pay20 b3) (k1_pay21 b3) 1#1

/-- The row of places. -/
def rankRow : Vec F S1x5120 .f32 := k1_pay22 (whEnd b0 b1 b2 b3).1 (matP b1 b3)

/-- 128 places of a row `t`, as the kernel reads them, -/
def rkB (t : Vec F S1x5120 .f32) (o : Fin 2 → Nat) (h : ∀ a, o a + S1x128.size a ≤ S1x5120.size a) : Vec F S1x128 .f32 :=
  (Memref.whole cc1_scratch2 : Memref sig .tc _ _ _).view.readAt (Elt F) (Rect.unit (s := S1x5120) o S1x128.size h).toLoadRect t

/-- and the whole row as a column. -/
def colOf (t : Vec F S1x5120 .f32) : Vec F S5120x1 .f32 := fun i =>
  k1_pay23 (rkB t (k1_off7 (tripOf2 (i 0))) (k1_off7_inb (tripOf2 (i 0)))) (ix2 (rowOf (i 0)) (i 1))

/-- The result. -/
def outB : Vec F S8x128 .f32 := k1_pay24 (colOf (rankRow b0 b1 b2 b3)) b4

end Out

/-- Writing 128 rows of a matrix held in a buffer: if the rows before are those of `full` and the rows written are, so
    are the rows up to the last written. -/
theorem chunk_write {n : Nat} (b : Ref sig .tc) (off : Fin b.ty.shape.rank → Nat)
    (size : Fin b.ty.shape.rank → Nat) (inb : ∀ a, off a + size a ≤ b.ty.shape.size a) (z : Fin b.ty.shape.rank)
    (hz : off z = 128 * n) (hs : size z = 128) (ho : ∀ a, a ≠ z → off a = 0 ∧ size a = b.ty.shape.size a)
    (f full : b.ty.Contents (Elt F)) (w : (Rect.unit off size inb).shape.Idx → Elt F b.ty.elt)
    (hw : ∀ x, w x = full ((Rect.unit off size inb).emb x)) (hf : ∀ i : b.ty.Idx, (i z).val < 128 * n → f i = full i) :
    ∀ i : b.ty.Idx, (i z).val < 128 * (n + 1) →
      ((Memref.whole b).access (Rect.unit off size inb) : View sig .tc _ _ _).write (Elt F) f w Finset.univ i = full i := by
  intro i hi
  by_cases h : 128 * n ≤ (i z).val
  · have hlt : ∀ a, (i a).val - off a < size a := by
      intro a
      by_cases ha : a = z
      · subst ha; rw [hz, hs]; omega
      · obtain ⟨h0, h1⟩ := ho a ha
        have := (i a).isLt; rw [h0, h1]; simpa using this
    have he : ((Memref.whole b).access (Rect.unit off size inb) : View sig .tc _ _ _).emb (fun a => ⟨(i a).val - off a, hlt a⟩) = i := by
      funext a
      apply Fin.ext
      refine (ValueKit.view_emb_slice_whole_unit_val b off size inb _ a).trans ?_
      show off a + ((i a).val - off a) = _
      by_cases ha : a = z
      · subst ha; omega
      · rw [(ho a ha).1]; omega
    conv_lhs => rw [← he]
    rw [View.write_emb_of_mem (h := Finset.mem_univ _), hw]
    show full _ = _
    congr 1
  · rw [View.write_of_not_mem]
    · exact hf i (by omega)
    · intro hm
      rw [View.setOn, Finset.mem_map] at hm
      obtain ⟨x, -, hx⟩ := hm
      have := congrArg (fun j : b.ty.Idx => (j z).val) hx
      have h2 := ValueKit.view_emb_slice_whole_unit_val b off size inb x z
      have h3 : (((Memref.whole b).access (Rect.unit off size inb) : View sig .tc _ _ _).emb x z).val = off z + (x z).val := h2
      omega

end Cert.Proof.PI

end
-- ==== Proof.PI.While.lean ====
/-
  The suppression loop of the second kernel: from its two carried rows and the suppression matrix it ends with the rows
  that `wh` names.
-/
module

public import proofs.«01_k».proof.Proof.PI.CommonB

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

theorem zero2' : (![0, 0] : Fin 2 → Nat) = fun _ => 0 := by funext a; fin_cases a <;> rfl

/-- The whole of a row, of the suppression matrix. -/
abbrev rRow : Rect S1x5120 := Rect.unit (s := S1x5120) ![0, 0] S1x5120.size inb_S1x5120_S1x5120_0_0
abbrev rMat : Rect S5120x5120 := Rect.unit (s := S5120x5120) ![0, 0] S5120x5120.size inb_S5120x5120_S5120x5120_0_0

theorem rdM (f : Vec F S5120x5120 .i8) : (Memref.whole cc1_scratch0 : Memref sig .tc _ _ _).view.readAt (Elt F) rMat.toLoadRect f = f :=
  Memref.readAt_unit_zero (Elt F) cc1_scratch0 zero2' _ f
theorem rdP (f : Vec F S5120x5120 .i8) : (Memref.whole cc1_scratch1 : Memref sig .tc _ _ _).view.readAt (Elt F) rMat.toLoadRect f = f :=
  Memref.readAt_unit_zero (Elt F) cc1_scratch1 zero2' _ f
theorem rdT (f : Vec F S1x5120 .f32) : (Memref.whole cc1_scratch2 : Memref sig .tc _ _ _).view.readAt (Elt F) rRow.toLoadRect f = f :=
  Memref.readAt_unit_zero (Elt F) cc1_scratch2 zero2' _ f
theorem rdA (f : Vec F S1x5120 .i8) : (Memref.whole cc1_scratch3 : Memref sig .tc _ _ _).view.readAt (Elt F) rRow.toLoadRect f = f :=
  Memref.readAt_unit_zero (Elt F) cc1_scratch3 zero2' _ f
theorem wrT (f w : Vec F S1x5120 .f32) : ((Memref.whole cc1_scratch2 : Memref sig .tc _ _ _).access rRow : View sig .tc _ _ _).write (Elt F) f w Finset.univ = w :=
  Memref.write_access_unit_zero_univ (Elt F) cc1_scratch2 zero2' _ f w
theorem wrAr (f w : Vec F S1x5120 .i8) : ((Memref.whole cc1_scratch3 : Memref sig .tc _ _ _).access rRow : View sig .tc _ _ _).write (Elt F) f w Finset.univ = w :=
  Memref.write_access_unit_zero_univ (Elt F) cc1_scratch3 zero2' _ f w

/-- What the loop's label owns. -/
def held (c : Dev nD) (M : Vec F S5120x5120 .i8) (t : Vec F S1x5120 .f32) (a : Vec F S1x5120 .i8) : sProp 𝕄 :=
  iprop(pt c cc1_scratch2 t ∗ pt c cc1_scratch3 a ∗ pt c cc1_scratch0 M)

/-- The loop with `k` passes left to run at most: it leaves the rows `wh` names. -/
def spec (c : Dev nD) (v3 : IVec S1x5120 1) (v1 : FVec F S1x5120 .f32) (M : Vec F S5120x5120 .i8) (k : ℕ)
    (t : Vec F S1x5120 .f32) (a : Vec F S1x5120 .i8) (fl : BitVec 1) : sWPT 𝕄 (BitVec 32 × BitVec 1) := do
  sWPT.consume (held c M t a)
  let r ← sWPT.arbitrary
  sWPT.produce (held c M (wh v3 v1 M k t a fl).1 (wh v3 v1 M k t a fl).2)
  pure r

theorem spec_apply (c : Dev nD) (v3 : IVec S1x5120 1) (v1 : FVec F S1x5120 .f32) (M : Vec F S5120x5120 .i8) (k : ℕ)
    (t : Vec F S1x5120 .f32) (a : Vec F S1x5120 .i8) (fl : BitVec 1) (K : BitVec 32 × BitVec 1 → sProp 𝕄) :
    spec c v3 v1 M k t a fl K = iprop(held c M t a ∗ ∀ r, (held c M (wh v3 v1 M k t a fl).1 (wh v3 v1 M k t a fl).2 -∗ K r)) := rfl

/-- With passes left the test is the flag; -/
theorem test_lt {j : ℕ} (hj : j < 5122) (fl : BitVec 1) :
    Scalar.andi fl (Scalar.cmpi .slt (BitVec.ofNat 32 j) 5122#32) = fl := by
  have h : (BitVec.ofNat 32 j).slt 5122#32 = true := by
    rw [BitVec.slt, decide_eq_true_eq, BitVec.toInt_eq_toNat_cond, BitVec.toInt_eq_toNat_cond]
    simp only [BitVec.toNat_ofNat]
    have : j % 2 ^ 32 = j := Nat.mod_eq_of_lt (by omega)
    rw [this]; split <;> split <;> omega
  have h2 : Scalar.cmpi .slt (BitVec.ofNat 32 j) 5122#32 = 1#1 := by
    simp [Scalar.cmpi, IntOp.cmpi, h]
  rw [h2]
  revert fl; decide

/-- with none left it fails; -/
theorem test_end (fl : BitVec 1) : ¬ Scalar.andi fl (Scalar.cmpi .slt (BitVec.ofNat 32 5122) 5122#32) = 1#1 := by
  revert fl; decide

/-- and a pass moves the counter on. -/
theorem addi_succ (j : ℕ) : Scalar.addi (BitVec.ofNat 32 j) 1#32 = BitVec.ofNat 32 (j + 1) := by
  rw [BitVec.ofNat_add]; rfl

/-- The loop meets its specification. -/
theorem spec_le (c : Dev nD) (v3 : IVec S1x5120 1) (v1 : FVec F S1x5120 .f32) (M : Vec F S5120x5120 .i8) (E : Set ℕ) :
    ∀ k j, j + k = 5122 → ∀ t a fl, spec c v3 v1 M k t a fl
      ≤ wp frame (wpE (defs₀ (F := F)) 𝒱₀ (c : Thread nD τ) (some k)) E
        (defs₀ (F := F) .tc (2 : (Λ₀ F).Label) ⟨Memref.whole cc1_scratch2, Memref.isWhole_whole _, Memref.whole cc1_scratch3, Memref.isWhole_whole _,
          Memref.whole cc1_scratch0, Memref.isWhole_whole _, v3, v1, BitVec.ofNat 32 j, fl⟩) := by
  intro k
  induction k with
  | zero =>
    intro j hj t a fl K
    obtain rfl : j = 5122 := by omega
    rw [spec_apply]
    show _ ⊢ wp frame (wpE (defs₀ (F := F)) 𝒱₀ (c : Thread nD τ) (some 0)) E
      (cc1_while1 (Memref.whole cc1_scratch2) (Memref.isWhole_whole _) (Memref.whole cc1_scratch3) (Memref.isWhole_whole _)
        (Memref.whole cc1_scratch0) (Memref.isWhole_whole _) v3 v1 (BitVec.ofNat 32 5122) fl) K
    simp only [cc1_while1_eq_skeleton]; unfold cc1_while1_skel
    rw [if_neg (test_end fl)]
    simp only [Prog.pure_eq_ret]
    iintro ⟨H, Hk⟩
    rw [wp_ret]; imodintro
    iapply Hk; iexact H
  | succ k ih =>
    intro j hj t a fl K
    rw [spec_apply]
    show _ ⊢ wp frame (wpE (defs₀ (F := F)) 𝒱₀ (c : Thread nD τ) (some (k + 1))) E
      (cc1_while1 (Memref.whole cc1_scratch2) (Memref.isWhole_whole _) (Memref.whole cc1_scratch3) (Memref.isWhole_whole _)
        (Memref.whole cc1_scratch0) (Memref.isWhole_whole _) v3 v1 (BitVec.ofNat 32 j) fl) K
    simp only [cc1_while1_eq_skeleton]; unfold cc1_while1_skel
    simp only [test_lt (show j < 5122 by omega) fl, addi_succ]
    by_cases hfl : fl = 1#1
    · rw [if_pos hfl]
      simp only [Prog.lift, Prog.bind_op, Prog.bind_ret, Prog.pure_eq_ret]
      rw [show wh v3 v1 M (k + 1) t a fl = wh v3 v1 M k (k1_pay3 v3 v1 a M) (k1_pay4 v3 v1 a M)
        (Scalar.cmpf .ogt (k1_pay2 v3 v1 t a M) (Scalar.ofBits .f32 0x00000000#32)) from if_pos hfl]
      unfold held
      iintro ⟨⟨Ht, Ha, HM⟩, Hk⟩
      iapply (wp_load 𝒱₀ (c : Thread nD τ) (some (k + 1)) E (m := Memref.whole cc1_scratch2) (Finset.subset_univ _)) $$ Ht; iintro Ht
      rw [rdT]
      iapply (wp_load 𝒱₀ (c : Thread nD τ) (some (k + 1)) E (m := Memref.whole cc1_scratch3) (Finset.subset_univ _)) $$ Ha; iintro Ha
      rw [rdA]
      iapply (wp_load 𝒱₀ (c : Thread nD τ) (some (k + 1)) E (m := Memref.whole cc1_scratch0) (Finset.subset_univ _)) $$ HM; iintro HM
      rw [rdM]
      iapply (wp_load 𝒱₀ (c : Thread nD τ) (some (k + 1)) E (m := Memref.whole cc1_scratch2) (Finset.subset_univ _)) $$ Ht; iintro Ht
      iapply (wp_store 𝒱₀ (c : Thread nD τ) (some (k + 1)) E (m := Memref.whole cc1_scratch2) (r := rRow) (Mk := Finset.univ) (Finset.subset_univ _)) $$ Ht; iintro Ht
      rw [wrT]
      iapply (wp_load 𝒱₀ (c : Thread nD τ) (some (k + 1)) E (m := Memref.whole cc1_scratch3) (Finset.subset_univ _)) $$ Ha; iintro Ha
      iapply (wp_store 𝒱₀ (c : Thread nD τ) (some (k + 1)) E (m := Memref.whole cc1_scratch3) (r := rRow) (Mk := Finset.univ) (Finset.subset_univ _)) $$ Ha; iintro Ha
      rw [wrAr]
      iapply (wp_call_spec 𝒱₀ (c : Thread nD τ) (some (k + 1)) E
        (spec c v3 v1 M k (k1_pay3 v3 v1 a M) (k1_pay4 v3 v1 a M) (Scalar.cmpf .ogt (k1_pay2 v3 v1 t a M) (Scalar.ofBits .f32 0x00000000#32)))
        k (fun u hu => by cases hu; exact Nat.lt_succ_self k) (ih (j + 1) (by omega) _ _ _))
      rw [spec_apply]; unfold held
      isplitl [Ht Ha HM]
      · isplitl [Ht]; · iexact Ht
        isplitl [Ha]; · iexact Ha
        iexact HM
      iintro %r ⟨Ht, Ha, HM⟩
      rw [wp_ret]; imodintro
      iapply Hk
      isplitl [Ht]; · iexact Ht
      isplitl [Ha]; · iexact Ha
      iexact HM
    · rw [if_neg hfl]
      simp only [Prog.pure_eq_ret]
      rw [show wh v3 v1 M (k + 1) t a fl = (t, a) from if_neg hfl]
      iintro ⟨H, Hk⟩
      rw [wp_ret]; imodintro
      iapply Hk; iexact H

end Cert.Proof.PI

end
-- ==== Proof.PI.BodyB.lean ====
/-
  The second kernel's body: its two counted loops by what they have written so far, the suppression loop by its
  specification, and the whole body.
-/
module

public import proofs.«01_k».proof.Proof.PI.While

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

/-- The memrefs of the second kernel's call, its loop bodies at them. -/
abbrev bodyT1 (v0 v5 v7 v9 v11 : Vec F S1x5120 .f32) :=
  k1_t1_body (F := F) (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _)
    (Memref.whole cc1_stg4_0) (Memref.isWhole_whole _) (Memref.whole cc1_stg5_0) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) v0 v5 v7 v9 v11
abbrev bodyT2 :=
  k1_t2_body (F := F) (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _)
    (Memref.whole cc1_stg4_0) (Memref.isWhole_whole _) (Memref.whole cc1_stg5_0) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _)

section

variable (c : Dev nD) (b0 : Vec F S5120x4 .f32) (b1 : Vec F S5120x1 .f32) (b2 : Vec F S4x5120 .f32) (b3 : Vec F S1x5120 .f32)

/-- Before trip `k` of the first loop: the inputs it reads, and the two matrices right in their first `128 k` rows. -/
def inv1 (k : ℕ) (_ : Unit) : sProp 𝕄 :=
  iprop(pt c cc1_stg0_0 b0 ∗ pt c cc1_stg1_0 b1
    ∗ (∃ M : Vec F S5120x5120 .i8, ⌜∀ i : S5120x5120.Idx, (i 0).val < 128 * k → M i = matM b0 b1 b2 b3 i⌝ ∗ pt c cc1_scratch0 M)
    ∗ (∃ P : Vec F S5120x5120 .i8, ⌜∀ i : S5120x5120.Idx, (i 0).val < 128 * k → P i = matP b1 b3 i⌝ ∗ pt c cc1_scratch1 P))

theorem tripOf1_emb (k : Fin k1_t1_loop.trips) (x : S128x5120.Idx) (i : S5120x5120.Idx) (h0 : (i 0).val = 128 * k.val + (x 0).val)
    (h1 : (i 1).val = (x 1).val) : tripOf1 (i 0) = k ∧ ix2 (rowOf (i 0)) (i 1) = x := by
  have hx : (x 0).val < 128 := (x 0).isLt
  refine ⟨Fin.ext ?_, ?_⟩
  · show (i 0).val / 128 = _; omega
  · funext a
    match a with
    | ⟨0, _⟩ => exact Fin.ext (show (i 0).val % 128 = (x 0).val by omega)
    | ⟨1, _⟩ => exact Fin.ext h1

abbrev rCh (k : Fin k1_t1_loop.trips) : Rect S5120x5120 := Rect.unit (s := S5120x5120) (k1_off6 k) S128x5120.size (k1_off6_inb k)

theorem rCh_val (k : Fin k1_t1_loop.trips) (x : S128x5120.Idx) :
    ((rCh k).emb x 0).val = 128 * k.val + (x 0).val ∧ ((rCh k).emb x 1).val = (x 1).val := by
  have h0 := ValueKit.rect_emb_unit_val (s := S5120x5120) (k1_off6 k) S128x5120.size (k1_off6_inb k) x 0
  have h1 := ValueKit.rect_emb_unit_val (s := S5120x5120) (k1_off6 k) S128x5120.size (k1_off6_inb k) x 1
  have e0 : k1_off6 k 0 = 128 * k.val := by rw [k1_off6_eq]; rfl
  have e1 : k1_off6 k 1 = 0 := by rw [k1_off6_eq]; rfl
  exact ⟨h0.trans (by rw [e0]), h1.trans (by rw [e1, Nat.zero_add])⟩

theorem matM_emb (k : Fin k1_t1_loop.trips) (x : S128x5120.Idx) : chM b0 b1 b2 b3 k x = matM b0 b1 b2 b3 ((rCh k).emb x) := by
  obtain ⟨e1, e2⟩ := tripOf1_emb k x ((rCh k).emb x) (rCh_val k x).1 (rCh_val k x).2
  exact (congr (congrArg (chM b0 b1 b2 b3) e1) e2).symm
theorem matP_emb (k : Fin k1_t1_loop.trips) (x : S128x5120.Idx) : chP b1 b3 k x = matP b1 b3 ((rCh k).emb x) := by
  obtain ⟨e1, e2⟩ := tripOf1_emb k x ((rCh k).emb x) (rCh_val k x).1 (rCh_val k x).2
  exact (congr (congrArg (chP b1 b3) e1) e2).symm

/-- One trip of the first loop. -/
theorem trip1 (k : Fin k1_t1_loop.trips) (acc : Unit) :
    inv1 c b0 b1 b2 b3 k.val acc
      ⊢ wp frame (wpE (defs₀ (F := F)) 𝒱₀ (c : Thread nD τ) none) Set.univ
          (bodyT1 b3 (w5 b2) (w7 b2) (w9 b2) (w11 b2) k acc) (inv1 c b0 b1 b2 b3 (k.val + 1)) := by
  unfold bodyT1 k1_t1_body
  simp only [k1_part1_eq_skeleton]; unfold k1_part1_skel
  simp only [Prog.lift, Prog.bind_op, Prog.bind_ret, Prog.pure_eq_ret]
  unfold inv1
  iintro ⟨H0, H1, ⟨%M, %hM, HM⟩, ⟨%P, %hP, HP⟩⟩
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg0_0) (Finset.subset_univ _)) $$ H0; iintro H0
  iapply (wp_load 𝒱₀ (c : Thread nD τ) none Set.univ (m := Memref.whole cc1_stg1_0) (Finset.subset_univ _)) $$ H1; iintro H1
  iapply (wp_load 𝒱₀ (c : Thread nD τ) none Set.univ (m := Memref.whole cc1_scratch0) (Finset.subset_univ _)) $$ HM; iintro HM
  iapply (wp_store 𝒱₀ (c : Thread nD τ) none Set.univ (m := Memref.whole cc1_scratch0) (r := rCh k) (Mk := Finset.univ) (Finset.subset_univ _)) $$ HM; iintro HM
  iapply (wp_load 𝒱₀ (c : Thread nD τ) none Set.univ (m := Memref.whole cc1_scratch1) (Finset.subset_univ _)) $$ HP; iintro HP
  iapply (wp_store 𝒱₀ (c : Thread nD τ) none Set.univ (m := Memref.whole cc1_scratch1) (r := rCh k) (Mk := Finset.univ) (Finset.subset_univ _)) $$ HP; iintro HP
  rw [wp_ret]; imodintro
  isplitl [H0]; · iexact H0
  isplitl [H1]; · iexact H1
  isplitl [HM]
  · iexists _; isplitr; swap; · iexact HM
    ipureintro
    exact chunk_write (F := F) cc1_scratch0 (k1_off6 k) S128x5120.size (k1_off6_inb k) (0 : Fin 2) (by rw [k1_off6_eq]; rfl) rfl
      (fun a ha => by
        rw [k1_off6_eq]
        match a with
        | ⟨0, _⟩ => exact absurd rfl ha
        | ⟨1, _⟩ => exact ⟨rfl, rfl⟩)
      M (matM b0 b1 b2 b3) (chM b0 b1 b2 b3 k) (fun x => matM_emb b0 b1 b2 b3 k x) hM
  · iexists _; isplitr; swap; · iexact HP
    ipureintro
    exact chunk_write (F := F) cc1_scratch1 (k1_off6 k) S128x5120.size (k1_off6_inb k) (0 : Fin 2) (by rw [k1_off6_eq]; rfl) rfl
      (fun a ha => by
        rw [k1_off6_eq]
        match a with
        | ⟨0, _⟩ => exact absurd rfl ha
        | ⟨1, _⟩ => exact ⟨rfl, rfl⟩)
      P (matP b1 b3) (chP b1 b3 k) (fun x => matP_emb b1 b3 k x) hP

/-- Before trip `k` of the second loop: the row of places, and the column right in its first `128 k` rows. -/
def inv2 (t : Vec F S1x5120 .f32) (k : ℕ) (_ : Unit) : sProp 𝕄 :=
  iprop(pt c cc1_scratch2 t
    ∗ (∃ r : Vec F S5120x1 .f32, ⌜∀ i : S5120x1.Idx, (i 0).val < 128 * k → r i = colOf t i⌝ ∗ pt c cc1_scratch4 r))

abbrev rCh2 (k : Fin k1_t2_loop.trips) : Rect S5120x1 := Rect.unit (s := S5120x1) (k1_off8 k) S128x1.size (k1_off8_inb k)

theorem rCh2_val (k : Fin k1_t2_loop.trips) (x : S128x1.Idx) :
    ((rCh2 k).emb x 0).val = 128 * k.val + (x 0).val ∧ ((rCh2 k).emb x 1).val = (x 1).val := by
  have h0 := ValueKit.rect_emb_unit_val (s := S5120x1) (k1_off8 k) S128x1.size (k1_off8_inb k) x 0
  have h1 := ValueKit.rect_emb_unit_val (s := S5120x1) (k1_off8 k) S128x1.size (k1_off8_inb k) x 1
  have e0 : k1_off8 k 0 = 128 * k.val := by rw [k1_off8_eq]; rfl
  have e1 : k1_off8 k 1 = 0 := by rw [k1_off8_eq]; rfl
  exact ⟨h0.trans (by rw [e0]), h1.trans (by rw [e1, Nat.zero_add])⟩

theorem colOf_emb (t : Vec F S1x5120 .f32) (k : Fin k1_t2_loop.trips) (x : S128x1.Idx) :
    k1_pay23 (rkB t (k1_off7 k) (k1_off7_inb k)) x = colOf t ((rCh2 k).emb x) := by
  have e1 : tripOf2 ((rCh2 k).emb x 0) = k := by
    have := (rCh2_val k x).1; have hx : (x 0).val < 128 := (x 0).isLt
    exact Fin.ext (show ((rCh2 k).emb x 0).val / 128 = _ by omega)
  have e2 : (ix2 (rowOf ((rCh2 k).emb x 0)) ((rCh2 k).emb x 1) : S128x1.Idx) = x := by
    have h0 := (rCh2_val k x).1; have h1 := (rCh2_val k x).2; have hx : (x 0).val < 128 := (x 0).isLt
    funext a
    match a with
    | ⟨0, _⟩ => exact Fin.ext (show ((rCh2 k).emb x 0).val % 128 = (x 0).val by omega)
    | ⟨1, _⟩ => exact Fin.ext h1
  exact (congr (congrArg (fun k => k1_pay23 (rkB t (k1_off7 k) (k1_off7_inb k))) e1) e2).symm

/-- One trip of the second loop. -/
theorem trip2 (t : Vec F S1x5120 .f32) (k : Fin k1_t2_loop.trips) (acc : Unit) :
    inv2 c t k.val acc
      ⊢ wp frame (wpE (defs₀ (F := F)) 𝒱₀ (c : Thread nD τ) none) Set.univ (bodyT2 k acc) (inv2 c t (k.val + 1)) := by
  unfold bodyT2 k1_t2_body
  simp only [Prog.lift, Prog.bind_op, Prog.bind_ret, Prog.pure_eq_ret]
  unfold inv2
  iintro ⟨Ht, ⟨%r, %hr, Hr⟩⟩
  iapply (wp_load 𝒱₀ (c : Thread nD τ) none Set.univ (m := Memref.whole cc1_scratch2) (Finset.subset_univ _)) $$ Ht; iintro Ht
  iapply (wp_load 𝒱₀ (c : Thread nD τ) none Set.univ (m := Memref.whole cc1_scratch4) (Finset.subset_univ _)) $$ Hr; iintro Hr
  iapply (wp_store 𝒱₀ (c : Thread nD τ) none Set.univ (m := Memref.whole cc1_scratch4) (r := rCh2 k) (Mk := Finset.univ) (Finset.subset_univ _)) $$ Hr; iintro Hr
  rw [wp_ret]; imodintro
  isplitl [Ht]; · iexact Ht
  iexists _; isplitr; swap; · iexact Hr
  ipureintro
  exact chunk_write (F := F) cc1_scratch4 (k1_off8 k) S128x1.size (k1_off8_inb k) (0 : Fin 2) (by rw [k1_off8_eq]; rfl) rfl
    (fun a ha => by
      rw [k1_off8_eq]
      match a with
      | ⟨0, _⟩ => exact absurd rfl ha
      | ⟨1, _⟩ => exact ⟨rfl, rfl⟩)
    r (colOf t) (k1_pay23 (rkB t (k1_off7 k) (k1_off7_inb k))) (fun x => colOf_emb t k x) hr

end

abbrev rCol : Rect S5120x1 := Rect.unit (s := S5120x1) ![0, 0] S5120x1.size inb_S5120x1_S5120x1_0_0
abbrev rPack : Rect S8x5120 := Rect.unit (s := S8x5120) ![0, 0] S8x5120.size inb_S8x5120_S8x5120_0_0
abbrev rOut : Rect S8x128 := Rect.unit (s := S8x128) ![0, 0] S8x128.size inb_S8x128_S8x128_0_0

theorem rdB3 (f : Vec F S1x5120 .f32) : (Memref.whole cc1_stg3_0 : Memref sig .tc _ _ _).view.readAt (Elt F) rRow.toLoadRect f = f :=
  Memref.readAt_unit_zero (Elt F) cc1_stg3_0 zero2' _ f
theorem rdB4 (f : Vec F S8x5120 .f32) : (Memref.whole cc1_stg4_0 : Memref sig .tc _ _ _).view.readAt (Elt F) rPack.toLoadRect f = f :=
  Memref.readAt_unit_zero (Elt F) cc1_stg4_0 zero2' _ f
theorem rdC (f : Vec F S5120x1 .f32) : (Memref.whole cc1_scratch4 : Memref sig .tc _ _ _).view.readAt (Elt F) rCol.toLoadRect f = f :=
  Memref.readAt_unit_zero (Elt F) cc1_scratch4 zero2' _ f
theorem wrO (f w : Vec F S8x128 .f32) : ((Memref.whole cc1_stg5_0 : Memref sig .tc _ _ _).access rOut : View sig .tc _ _ _).write (Elt F) f w Finset.univ = w :=
  Memref.write_access_unit_zero_univ (Elt F) cc1_stg5_0 zero2' _ f w

theorem whEnd_eq (b0 : Vec F S5120x4 .f32) (b1 : Vec F S5120x1 .f32) (b2 : Vec F S4x5120 .f32) (b3 : Vec F S1x5120 .f32) :
    wh (k1_pay11 b3) (k1_pay10 b3) (matM b0 b1 b2 b3) 5122 (k1_pay20 b3) (k1_pay21 b3) 1#1 = whEnd b0 b1 b2 b3 := by
  unfold whEnd; rfl

attribute [local irreducible] wh whEnd matM matP

set_option maxHeartbeats 1600000 in
/-- The second kernel's body run once. -/
theorem body_b (c : Dev nD) (b0 : Vec F S5120x4 .f32) (b1 : Vec F S5120x1 .f32) (b2 : Vec F S4x5120 .f32) (b3 : Vec F S1x5120 .f32)
    (b4 : Vec F S8x5120 .f32) (f5 : Vec F S8x128 .f32) (M P : Vec F S5120x5120 .i8) (t : Vec F S1x5120 .f32) (a : Vec F S1x5120 .i8)
    (r : Vec F S5120x1 .f32) (K : PUnit → sProp 𝕄) :
    iprop((pt c cc1_stg0_0 b0 ∗ pt c cc1_stg1_0 b1 ∗ pt c cc1_stg2_0 b2 ∗ pt c cc1_stg3_0 b3 ∗ pt c cc1_stg4_0 b4 ∗ pt c cc1_stg5_0 f5
        ∗ pt c cc1_scratch0 M ∗ pt c cc1_scratch1 P ∗ pt c cc1_scratch2 t ∗ pt c cc1_scratch3 a ∗ pt c cc1_scratch4 r)
      ∗ ((pt c cc1_stg0_0 b0 ∗ pt c cc1_stg1_0 b1 ∗ pt c cc1_stg2_0 b2 ∗ pt c cc1_stg3_0 b3 ∗ pt c cc1_stg4_0 b4
        ∗ pt c cc1_stg5_0 (outB b0 b1 b2 b3 b4)
        ∗ (∃ f : Vec F S5120x5120 .i8, pt c cc1_scratch0 f) ∗ (∃ f : Vec F S5120x5120 .i8, pt c cc1_scratch1 f)
        ∗ (∃ f : Vec F S1x5120 .f32, pt c cc1_scratch2 f) ∗ (∃ f : Vec F S1x5120 .i8, pt c cc1_scratch3 f)
        ∗ (∃ f : Vec F S5120x1 .f32, pt c cc1_scratch4 f)) -∗ K ⟨⟩))
      ⊢ wp frame (wpE (defs₀ (F := F)) 𝒱₀ (c : Thread nD τ) none) Set.univ
          (cc1__stage_b (Memref.whole cc1_stg0_0) (Memref.isWhole_whole _) (Memref.whole cc1_stg1_0) (Memref.isWhole_whole _)
            (Memref.whole cc1_stg2_0) (Memref.isWhole_whole _) (Memref.whole cc1_stg3_0) (Memref.isWhole_whole _)
            (Memref.whole cc1_stg4_0) (Memref.isWhole_whole _) (Memref.whole cc1_stg5_0) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)) K := by
  simp only [cc1__stage_b_eq_skeleton]; unfold cc1__stage_b_skel
  simp only [k1_part3_eq_skeleton]; unfold k1_part3_skel
  simp only [k1_part2_eq_skeleton]; unfold k1_part2_skel
  simp only [Prog.lift, Prog.bind_op, Prog.bind_ret, Prog.pure_eq_ret, bind_assoc]
  iintro ⟨⟨H0, H1, H2, H3, H4, H5, HM, HP, Ht, Ha, Hr⟩, Hk⟩
  iapply (wp_load 𝒱₀ (c : Thread nD τ) none Set.univ (m := Memref.whole cc1_stg3_0) (Finset.subset_univ _)) $$ H3; iintro H3
  rw [rdB3]
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg2_0) (Finset.subset_univ _)) $$ H2; iintro H2
  iapply (wp_load 𝒱₀ (c : Thread nD τ) none Set.univ (m := Memref.whole cc1_stg2_0) (Finset.subset_univ _)) $$ H2; iintro H2
  -- the two matrices, 128 rows a trip
  ihave HI : inv1 c b0 b1 b2 b3 0 () $$ [H0 H1 HM HP]
  · unfold inv1
    isplitl [H0]; · iexact H0
    isplitl [H1]; · iexact H1
    isplitl [HM]
    · iexists M; isplitr; swap; · iexact HM
      ipureintro; intro i hi; exact absurd hi (by omega)
    · iexists P; isplitr; swap; · iexact HP
      ipureintro; intro i hi; exact absurd hi (by omega)
  iapply (Scf.wp_for_bind frame (wpE (defs₀ (F := F)) 𝒱₀ (c : Thread nD τ) none) Set.univ _ _ _ k1_t1_ok ()
    (bodyT1 b3 (w5 b2) (w7 b2) (w9 b2) (w11 b2)) (inv1 c b0 b1 b2 b3) (trip1 c b0 b1 b2 b3)) $$ HI
  iintro %acc HI
  unfold inv1
  icases HI with ⟨H0, H1, ⟨%M', %hM, HM⟩, ⟨%P', %hP, HP⟩⟩
  have eM : M' = matM b0 b1 b2 b3 := funext fun i => hM i (by have := (i 0).isLt; have := trips1; show (i 0).val < 128 * k1_t1_loop.trips; rw [trips1]; exact (i 0).isLt)
  have eP : P' = matP b1 b3 := funext fun i => hP i (by show (i 0).val < 128 * k1_t1_loop.trips; rw [trips1]; exact (i 0).isLt)
  subst eM eP
  -- the loop's rows, the loop
  iapply (wp_load 𝒱₀ (c : Thread nD τ) none Set.univ (m := Memref.whole cc1_scratch2) (Finset.subset_univ _)) $$ Ht; iintro Ht
  iapply (wp_store 𝒱₀ (c : Thread nD τ) none Set.univ (m := Memref.whole cc1_scratch2) (r := rRow) (Mk := Finset.univ) (Finset.subset_univ _)) $$ Ht; iintro Ht
  rw [wrT]
  iapply (wp_load 𝒱₀ (c : Thread nD τ) none Set.univ (m := Memref.whole cc1_scratch3) (Finset.subset_univ _)) $$ Ha; iintro Ha
  iapply (wp_store 𝒱₀ (c : Thread nD τ) none Set.univ (m := Memref.whole cc1_scratch3) (r := rRow) (Mk := Finset.univ) (Finset.subset_univ _)) $$ Ha; iintro Ha
  rw [wrAr]
  iapply (wp_call_spec 𝒱₀ (c : Thread nD τ) none Set.univ
    (spec c (k1_pay11 b3) (k1_pay10 b3) (matM b0 b1 b2 b3) 5122 (k1_pay20 b3) (k1_pay21 b3) 1#1)
    5122 (fun u hu => nomatch hu) (spec_le c _ _ _ Set.univ 5122 0 rfl _ _ _))
  rw [spec_apply, whEnd_eq]; unfold held
  isplitl [Ht Ha HM]
  · isplitl [Ht]; · iexact Ht
    isplitl [Ha]; · iexact Ha
    iexact HM
  iintro %res ⟨Ht, Ha, HM⟩
  -- the places
  iapply (wp_load 𝒱₀ (c : Thread nD τ) none Set.univ (m := Memref.whole cc1_scratch2) (Finset.subset_univ _)) $$ Ht; iintro Ht
  rw [rdT]
  iapply (wp_load 𝒱₀ (c : Thread nD τ) none Set.univ (m := Memref.whole cc1_scratch1) (Finset.subset_univ _)) $$ HP; iintro HP
  rw [rdP]
  iapply (wp_load 𝒱₀ (c : Thread nD τ) none Set.univ (m := Memref.whole cc1_scratch2) (Finset.subset_univ _)) $$ Ht; iintro Ht
  iapply (wp_store 𝒱₀ (c : Thread nD τ) none Set.univ (m := Memref.whole cc1_scratch2) (r := rRow) (Mk := Finset.univ) (Finset.subset_univ _)) $$ Ht; iintro Ht
  rw [wrT]
  ihave HI : inv2 c (rankRow b0 b1 b2 b3) 0 () $$ [Ht Hr]
  · unfold inv2
    isplitl [Ht]; · iexact Ht
    iexists r; isplitr; swap; · iexact Hr
    ipureintro; intro i hi; exact absurd hi (by omega)
  iapply (Scf.wp_for_bind frame (wpE (defs₀ (F := F)) 𝒱₀ (c : Thread nD τ) none) Set.univ _ _ _ k1_t2_ok ()
    bodyT2 (inv2 c (rankRow b0 b1 b2 b3)) (trip2 c (rankRow b0 b1 b2 b3))) $$ HI
  iintro %acc2 HI
  unfold inv2
  icases HI with ⟨Ht, ⟨%r', %hr, Hr⟩⟩
  have er : r' = colOf (rankRow b0 b1 b2 b3) := funext fun i => hr i (by show (i 0).val < 128 * k1_t2_loop.trips; rw [trips2]; exact (i 0).isLt)
  subst er
  -- the result
  iapply (wp_load 𝒱₀ (c : Thread nD τ) none Set.univ (m := Memref.whole cc1_scratch4) (Finset.subset_univ _)) $$ Hr; iintro Hr
  rw [rdC]
  iapply (wp_load 𝒱₀ (c : Thread nD τ) none Set.univ (m := Memref.whole cc1_stg4_0) (Finset.subset_univ _)) $$ H4; iintro H4
  rw [rdB4]
  iapply (wp_load 𝒱₀ (c : Thread nD τ) none Set.univ (m := Memref.whole cc1_stg5_0) (Finset.subset_univ _)) $$ H5; iintro H5
  iapply (wp_store 𝒱₀ (c : Thread nD τ) none Set.univ (m := Memref.whole cc1_stg5_0) (r := rOut) (Mk := Finset.univ) (Finset.subset_univ _)) $$ H5; iintro H5
  rw [wrO]
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [HM]; · iexists _; iexact HM
  isplitl [HP]; · iexists _; iexact HP
  isplitl [Ht]; · iexists _; iexact Ht
  isplitl [Ha]; · iexists _; iexact Ha
  iexists _; iexact Hr

end Cert.Proof.PI

end
-- ==== Proof.PI.Data.lean ====
/-
  The two kernel regions' proof data, stated from the contents the region is entered with: what each window's staging
  buffer holds after the one grid point, and the body obligation of each region.
-/
module

public import proofs.«01_k».proof.Proof.PI.BodyA
public import proofs.«01_k».proof.Proof.PI.BodyB
public import proofs.«01_k».proof.Proof.Gen.KernelIdeal.Regions
public import Idealize.ShloMosaic.Lib.Pipeline.ValueKit

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

/-! ### The first region -/

section Dat0

variable (V : Valuation τ sig (Elt F)) (c : Dev nD)

/-- The first region's proof data, entered with the buffers at `V`: the inputs stay, each result is what the per-box
    stage computes of them. -/
def dat0 : Dat τ (Elt F) Unit ℕ (UR nD τ) ℕ (cfg0 (F := F)) c where
  A w := V (Proc.devRef .tc (Pipeline.arrRef spec0 w))
  after w _ := match w with
    | ⟨0, _⟩ => V (Proc.devRef .tc main_arg0)
    | ⟨1, _⟩ => V (Proc.devRef .tc main_arg1)
    | ⟨2, _⟩ => V (Proc.devRef .tc main_v0)
    | ⟨3, _⟩ => outA3 (V (Proc.devRef .tc main_arg0)) (V (Proc.devRef .tc main_arg1)) (V (Proc.devRef .tc main_v0))
    | ⟨4, _⟩ => outA4 (V (Proc.devRef .tc main_arg0)) (V (Proc.devRef .tc main_arg1)) (V (Proc.devRef .tc main_v0))
    | ⟨5, _⟩ => outA5 (V (Proc.devRef .tc main_arg1))
    | ⟨6, _⟩ => outA6 (V (Proc.devRef .tc main_arg1))
    | ⟨7, _⟩ => outA7 (V (Proc.devRef .tc main_arg1))
  Φ _ := Pipeline.scopedRest spec0 c
  q _ := fullShare
  owed _ := 0

variable (t : Fin (cfg0 (F := F)).N)

theorem after0_0 : (dat0 V c).after 0 t = V (Proc.devRef .tc main_arg0) := by dsimp only [dat0]; rfl
theorem after0_1 : (dat0 V c).after 1 t = V (Proc.devRef .tc main_arg1) := by dsimp only [dat0]; rfl
theorem after0_2 : (dat0 V c).after 2 t = V (Proc.devRef .tc main_v0) := by dsimp only [dat0]; rfl
theorem after0_3 : (dat0 V c).after 3 t = outA3 (V (Proc.devRef .tc main_arg0)) (V (Proc.devRef .tc main_arg1)) (V (Proc.devRef .tc main_v0)) := by
  dsimp only [dat0]; rfl
theorem after0_4 : (dat0 V c).after 4 t = outA4 (V (Proc.devRef .tc main_arg0)) (V (Proc.devRef .tc main_arg1)) (V (Proc.devRef .tc main_v0)) := by
  dsimp only [dat0]; rfl
theorem after0_5 : (dat0 V c).after 5 t = outA5 (V (Proc.devRef .tc main_arg1)) := by dsimp only [dat0]; rfl
theorem after0_6 : (dat0 V c).after 6 t = outA6 (V (Proc.devRef .tc main_arg1)) := by dsimp only [dat0]; rfl
theorem after0_7 : (dat0 V c).after 7 t = outA7 (V (Proc.devRef .tc main_arg1)) := by dsimp only [dat0]; rfl

theorem before0_0 (d) : (dat0 V c).before 0 t0_0 d = V (Proc.devRef .tc main_arg0) := by
  unfold Dat.before; rw [if_pos (fetch0_0 t0_0)]
  refine (show _ = (win0_0.blk t0_0).view.read (Elt F) (V (Proc.devRef .tc main_arg0)) from rfl).trans ?_
  exact Memref.read_access_unit_zero (Elt F) main_arg0 (by funext a; fin_cases a <;> rfl) _ _
theorem own0_0 : (iprop(∃ d, pt c cc0_stg0_0 ((dat0 V c).before 0 t0_0 d)) : sProp 𝕄) ⊢ pt c cc0_stg0_0 (V (Proc.devRef .tc main_arg0)) := by
  iintro ⟨%d, H⟩
  rw [before0_0]
  iexact H
theorem before0_1 (d) : (dat0 V c).before 1 t0_0 d = V (Proc.devRef .tc main_arg1) := by
  unfold Dat.before; rw [if_pos (fetch0_1 t0_0)]
  refine (show _ = (win0_1.blk t0_0).view.read (Elt F) (V (Proc.devRef .tc main_arg1)) from rfl).trans ?_
  exact Memref.read_access_unit_zero (Elt F) main_arg1 (by funext a; fin_cases a <;> rfl) _ _
theorem own0_1 : (iprop(∃ d, pt c cc0_stg1_0 ((dat0 V c).before 1 t0_0 d)) : sProp 𝕄) ⊢ pt c cc0_stg1_0 (V (Proc.devRef .tc main_arg1)) := by
  iintro ⟨%d, H⟩
  rw [before0_1]
  iexact H
theorem before0_2 (d) : (dat0 V c).before 2 t0_0 d = V (Proc.devRef .tc main_v0) := by
  unfold Dat.before; rw [if_pos (fetch0_2 t0_0)]
  refine (show _ = (win0_2.blk t0_0).view.read (Elt F) (V (Proc.devRef .tc main_v0)) from rfl).trans ?_
  exact Memref.read_access_unit_zero (Elt F) main_v0 (by funext a; fin_cases a <;> rfl) _ _
theorem own0_2 : (iprop(∃ d, pt c cc0_stg2_0 ((dat0 V c).before 2 t0_0 d)) : sProp 𝕄) ⊢ pt c cc0_stg2_0 (V (Proc.devRef .tc main_v0)) := by
  iintro ⟨%d, H⟩
  rw [before0_2]
  iexact H

/-- The windows one by one. -/
theorem bigSep_cfg0 (Φ : Fin (cfg0 (F := F)).W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

/-- The first kernel's body, from the inputs as fetched and the results' staging buffers at any contents. -/
theorem sound0 :
    iprop(Pipeline.scopedRest spec0 c ∗ (dat0 V c).owesAt () t0_0.castSucc
        ∗ (∃ d, pt c cc0_stg0_0 ((dat0 V c).before 0 t0_0 d))
        ∗ (∃ d, pt c cc0_stg1_0 ((dat0 V c).before 1 t0_0 d))
        ∗ (∃ d, pt c cc0_stg2_0 ((dat0 V c).before 2 t0_0 d))
        ∗ (∃ d, pt c cc0_stg3_0 ((dat0 V c).before 3 t0_0 d))
        ∗ (∃ d, pt c cc0_stg4_0 ((dat0 V c).before 4 t0_0 d))
        ∗ (∃ d, pt c cc0_stg5_0 ((dat0 V c).before 5 t0_0 d))
        ∗ (∃ d, pt c cc0_stg6_0 ((dat0 V c).before 6 t0_0 d))
        ∗ (∃ d, pt c cc0_stg7_0 ((dat0 V c).before 7 t0_0 d)))
      ⊢ wp frame (wpE (defs₀ (F := F)) 𝒱₀ (c : Thread nD τ) none) Set.univ
        (cc0__stage_a (Memref.whole cc0_stg0_0) (Memref.isWhole_whole _)
          (Memref.whole cc0_stg1_0) (Memref.isWhole_whole _)
          (Memref.whole cc0_stg2_0) (Memref.isWhole_whole _)
          (Memref.whole cc0_stg3_0) (Memref.isWhole_whole _)
          (Memref.whole cc0_stg4_0) (Memref.isWhole_whole _)
          (Memref.whole cc0_stg5_0) (Memref.isWhole_whole _)
          (Memref.whole cc0_stg6_0) (Memref.isWhole_whole _)
          (Memref.whole cc0_stg7_0) (Memref.isWhole_whole _))
        fun _ => iprop(Pipeline.scopedRest spec0 c ∗ (dat0 V c).owesAt () t0_0.succ
        ∗ pt c cc0_stg0_0 (V (Proc.devRef .tc main_arg0))
        ∗ pt c cc0_stg1_0 (V (Proc.devRef .tc main_arg1))
        ∗ pt c cc0_stg2_0 (V (Proc.devRef .tc main_v0))
        ∗ pt c cc0_stg3_0 (outA3 (V (Proc.devRef .tc main_arg0)) (V (Proc.devRef .tc main_arg1)) (V (Proc.devRef .tc main_v0)))
        ∗ pt c cc0_stg4_0 (outA4 (V (Proc.devRef .tc main_arg0)) (V (Proc.devRef .tc main_arg1)) (V (Proc.devRef .tc main_v0)))
        ∗ pt c cc0_stg5_0 (outA5 (V (Proc.devRef .tc main_arg1)))
        ∗ pt c cc0_stg6_0 (outA6 (V (Proc.devRef .tc main_arg1)))
        ∗ pt c cc0_stg7_0 (outA7 (V (Proc.devRef .tc main_arg1)))) := by
  iintro ⟨HΦ, HO, H0, H1, H2, ⟨%d3, H3⟩, ⟨%d4, H4⟩, ⟨%d5, H5⟩, ⟨%d6, H6⟩, ⟨%d7, H7⟩⟩
  ihave H0 := own0_0 V c $$ H0
  ihave H1 := own0_1 V c $$ H1
  ihave H2 := own0_2 V c $$ H2
  iapply body_a c (V (Proc.devRef .tc main_arg0)) (V (Proc.devRef .tc main_arg1)) (V (Proc.devRef .tc main_v0))
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro H
  isplitl [HΦ]; · iexact HΦ
  isplitl [HO]; · iexact HO
  iexact H

/-- The first kernel's body meets its obligation. -/
theorem obligation0 : BodyObligation (dat0 V c) (defs₀ (F := F)) 𝒱₀ () Set.univ := fun t => by
  rw [fin_N0 t]
  rw [bigSep_cfg0, bigSep_cfg0]
  sl_whnfR [defs₀, Defs.onTc]
  simp only [owns_whole]
  rw [after0_0, after0_1, after0_2, after0_3, after0_4, after0_5, after0_6, after0_7]
  exact sound0 V c

end Dat0

/-! ### The second region -/

section Dat1

variable (V : Valuation τ sig (Elt F)) (c : Dev nD)

/-- The second region's proof data, entered with the buffers at `V`: the inputs stay, the result is what the suppression
    stage computes of them. -/
def dat1 : Dat τ (Elt F) Unit ℕ (UR nD τ) ℕ (cfg1 (F := F)) c where
  A w := V (Proc.devRef .tc (Pipeline.arrRef spec1 w))
  after w _ := match w with
    | ⟨0, _⟩ => V (Proc.devRef .tc main_v2)
    | ⟨1, _⟩ => V (Proc.devRef .tc main_v3)
    | ⟨2, _⟩ => V (Proc.devRef .tc main_v12)
    | ⟨3, _⟩ => V (Proc.devRef .tc main_v13)
    | ⟨4, _⟩ => V (Proc.devRef .tc main_v11)
    | ⟨5, _⟩ => outB (V (Proc.devRef .tc main_v2)) (V (Proc.devRef .tc main_v3)) (V (Proc.devRef .tc main_v12)) (V (Proc.devRef .tc main_v13)) (V (Proc.devRef .tc main_v11))
  Φ _ := Pipeline.scopedRest spec1 c
  q _ := fullShare
  owed _ := 0

variable (t : Fin (cfg1 (F := F)).N)

theorem after1_0 : (dat1 V c).after 0 t = V (Proc.devRef .tc main_v2) := by dsimp only [dat1]; rfl
theorem after1_1 : (dat1 V c).after 1 t = V (Proc.devRef .tc main_v3) := by dsimp only [dat1]; rfl
theorem after1_2 : (dat1 V c).after 2 t = V (Proc.devRef .tc main_v12) := by dsimp only [dat1]; rfl
theorem after1_3 : (dat1 V c).after 3 t = V (Proc.devRef .tc main_v13) := by dsimp only [dat1]; rfl
theorem after1_4 : (dat1 V c).after 4 t = V (Proc.devRef .tc main_v11) := by dsimp only [dat1]; rfl
theorem after1_5 : (dat1 V c).after 5 t = outB (V (Proc.devRef .tc main_v2)) (V (Proc.devRef .tc main_v3)) (V (Proc.devRef .tc main_v12)) (V (Proc.devRef .tc main_v13)) (V (Proc.devRef .tc main_v11)) := by
  dsimp only [dat1]; rfl

theorem before1_0 (d) : (dat1 V c).before 0 t1_0 d = V (Proc.devRef .tc main_v2) := by
  unfold Dat.before; rw [if_pos (fetch1_0 t1_0)]
  refine (show _ = (win1_0.blk t1_0).view.read (Elt F) (V (Proc.devRef .tc main_v2)) from rfl).trans ?_
  exact Memref.read_access_unit_zero (Elt F) main_v2 (by funext a; fin_cases a <;> rfl) _ _
theorem own1_0 : (iprop(∃ d, pt c cc1_stg0_0 ((dat1 V c).before 0 t1_0 d)) : sProp 𝕄) ⊢ pt c cc1_stg0_0 (V (Proc.devRef .tc main_v2)) := by
  iintro ⟨%d, H⟩
  rw [before1_0]
  iexact H
theorem before1_1 (d) : (dat1 V c).before 1 t1_0 d = V (Proc.devRef .tc main_v3) := by
  unfold Dat.before; rw [if_pos (fetch1_1 t1_0)]
  refine (show _ = (win1_1.blk t1_0).view.read (Elt F) (V (Proc.devRef .tc main_v3)) from rfl).trans ?_
  exact Memref.read_access_unit_zero (Elt F) main_v3 (by funext a; fin_cases a <;> rfl) _ _
theorem own1_1 : (iprop(∃ d, pt c cc1_stg1_0 ((dat1 V c).before 1 t1_0 d)) : sProp 𝕄) ⊢ pt c cc1_stg1_0 (V (Proc.devRef .tc main_v3)) := by
  iintro ⟨%d, H⟩
  rw [before1_1]
  iexact H
theorem before1_2 (d) : (dat1 V c).before 2 t1_0 d = V (Proc.devRef .tc main_v12) := by
  unfold Dat.before; rw [if_pos (fetch1_2 t1_0)]
  refine (show _ = (win1_2.blk t1_0).view.read (Elt F) (V (Proc.devRef .tc main_v12)) from rfl).trans ?_
  exact Memref.read_access_unit_zero (Elt F) main_v12 (by funext a; fin_cases a <;> rfl) _ _
theorem own1_2 : (iprop(∃ d, pt c cc1_stg2_0 ((dat1 V c).before 2 t1_0 d)) : sProp 𝕄) ⊢ pt c cc1_stg2_0 (V (Proc.devRef .tc main_v12)) := by
  iintro ⟨%d, H⟩
  rw [before1_2]
  iexact H
theorem before1_3 (d) : (dat1 V c).before 3 t1_0 d = V (Proc.devRef .tc main_v13) := by
  unfold Dat.before; rw [if_pos (fetch1_3 t1_0)]
  refine (show _ = (win1_3.blk t1_0).view.read (Elt F) (V (Proc.devRef .tc main_v13)) from rfl).trans ?_
  exact Memref.read_access_unit_zero (Elt F) main_v13 (by funext a; fin_cases a <;> rfl) _ _
theorem own1_3 : (iprop(∃ d, pt c cc1_stg3_0 ((dat1 V c).before 3 t1_0 d)) : sProp 𝕄) ⊢ pt c cc1_stg3_0 (V (Proc.devRef .tc main_v13)) := by
  iintro ⟨%d, H⟩
  rw [before1_3]
  iexact H
theorem before1_4 (d) : (dat1 V c).before 4 t1_0 d = V (Proc.devRef .tc main_v11) := by
  unfold Dat.before; rw [if_pos (fetch1_4 t1_0)]
  refine (show _ = (win1_4.blk t1_0).view.read (Elt F) (V (Proc.devRef .tc main_v11)) from rfl).trans ?_
  exact Memref.read_access_unit_zero (Elt F) main_v11 (by funext a; fin_cases a <;> rfl) _ _
theorem own1_4 : (iprop(∃ d, pt c cc1_stg4_0 ((dat1 V c).before 4 t1_0 d)) : sProp 𝕄) ⊢ pt c cc1_stg4_0 (V (Proc.devRef .tc main_v11)) := by
  iintro ⟨%d, H⟩
  rw [before1_4]
  iexact H

/-- The windows one by one. -/
theorem bigSep_cfg1 (Φ : Fin (cfg1 (F := F)).W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_W1 Φ

theorem phi1 (k) : (dat1 V c).Φ k = Pipeline.scopedRest spec1 c := rfl

/-- The second kernel's body, from the inputs as fetched and the results' staging buffers at any contents. -/
theorem sound1 :
    iprop(Pipeline.scopedRest spec1 c ∗ (dat1 V c).owesAt () t1_0.castSucc
        ∗ (∃ d, pt c cc1_stg0_0 ((dat1 V c).before 0 t1_0 d))
        ∗ (∃ d, pt c cc1_stg1_0 ((dat1 V c).before 1 t1_0 d))
        ∗ (∃ d, pt c cc1_stg2_0 ((dat1 V c).before 2 t1_0 d))
        ∗ (∃ d, pt c cc1_stg3_0 ((dat1 V c).before 3 t1_0 d))
        ∗ (∃ d, pt c cc1_stg4_0 ((dat1 V c).before 4 t1_0 d))
        ∗ (∃ d, pt c cc1_stg5_0 ((dat1 V c).before 5 t1_0 d)))
      ⊢ wp frame (wpE (defs₀ (F := F)) 𝒱₀ (c : Thread nD τ) none) Set.univ
        (cc1__stage_b (Memref.whole cc1_stg0_0) (Memref.isWhole_whole _)
          (Memref.whole cc1_stg1_0) (Memref.isWhole_whole _)
          (Memref.whole cc1_stg2_0) (Memref.isWhole_whole _)
          (Memref.whole cc1_stg3_0) (Memref.isWhole_whole _)
          (Memref.whole cc1_stg4_0) (Memref.isWhole_whole _)
          (Memref.whole cc1_stg5_0) (Memref.isWhole_whole _)
          (Memref.whole cc1_scratch0) (Memref.isWhole_whole _)
          (Memref.whole cc1_scratch1) (Memref.isWhole_whole _)
          (Memref.whole cc1_scratch2) (Memref.isWhole_whole _)
          (Memref.whole cc1_scratch3) (Memref.isWhole_whole _)
          (Memref.whole cc1_scratch4) (Memref.isWhole_whole _))
        fun _ => iprop(Pipeline.scopedRest spec1 c ∗ (dat1 V c).owesAt () t1_0.succ
        ∗ pt c cc1_stg0_0 (V (Proc.devRef .tc main_v2))
        ∗ pt c cc1_stg1_0 (V (Proc.devRef .tc main_v3))
        ∗ pt c cc1_stg2_0 (V (Proc.devRef .tc main_v12))
        ∗ pt c cc1_stg3_0 (V (Proc.devRef .tc main_v13))
        ∗ pt c cc1_stg4_0 (V (Proc.devRef .tc main_v11))
        ∗ pt c cc1_stg5_0 (outB (V (Proc.devRef .tc main_v2)) (V (Proc.devRef .tc main_v3)) (V (Proc.devRef .tc main_v12)) (V (Proc.devRef .tc main_v13)) (V (Proc.devRef .tc main_v11)))) := by
  rw [scopedRest1_eq]
  iintro ⟨⟨R0, R1, R2, R3, R4, R5, R6, R7, ⟨%s0, S0⟩, ⟨%s1, S1⟩, ⟨%s2, S2⟩, ⟨%s3, S3⟩, ⟨%s4, S4⟩⟩, HO, H0, H1, H2, H3, H4, ⟨%d5, H5⟩⟩
  ihave H0 := own1_0 V c $$ H0
  ihave H1 := own1_1 V c $$ H1
  ihave H2 := own1_2 V c $$ H2
  ihave H3 := own1_3 V c $$ H3
  ihave H4 := own1_4 V c $$ H4
  iapply body_b c (V (Proc.devRef .tc main_v2)) (V (Proc.devRef .tc main_v3)) (V (Proc.devRef .tc main_v12)) (V (Proc.devRef .tc main_v13)) (V (Proc.devRef .tc main_v11))
  isplitl [H0 H1 H2 H3 H4 H5 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iexact S4
  iintro ⟨H0, H1, H2, H3, H4, H5, S0, S1, S2, S3, S4⟩
  isplitl [R0 R1 R2 R3 R4 R5 R6 R7 S0 S1 S2 S3 S4]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [S0]; · iexact S0
    isplitl [S1]; · iexact S1
    isplitl [S2]; · iexact S2
    isplitl [S3]; · iexact S3
    iexact S4
  isplitl [HO]; · iexact HO
  isplitl [H0]; · iexact H0
  isplitl [H1]; · iexact H1
  isplitl [H2]; · iexact H2
  isplitl [H3]; · iexact H3
  isplitl [H4]; · iexact H4
  iexact H5

/-- The second kernel's body meets its obligation. -/
theorem obligation1 : BodyObligation (dat1 V c) (defs₀ (F := F)) 𝒱₀ () Set.univ := fun t => by
  rw [fin_N1 t]
  rw [bigSep_cfg1, bigSep_cfg1]
  sl_whnfR [defs₀, Defs.onTc]
  simp only [owns_whole]
  rw [after1_0, after1_1, after1_2, after1_3, after1_4, after1_5]
  exact sound1 V c

end Dat1

end Cert.Proof.PI

end
-- ==== Proof.PI.Left.lean ====
/-
  What each of the two kernels leaves in its results' arrays: the array written back whole at the one grid point.
-/
module

public import proofs.«01_k».proof.Proof.PI.Data

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

/-! ### What each region leaves -/

attribute [local irreducible] outA3 outA4 outA5 outA6 outA7 outB

section Left

variable (V : Valuation τ sig (Elt F)) (c : Dev nD)

theorem arr0_3 : (dat0 V c).arrAt 3 (cfg0 (F := F)).N = outA3 (V (Proc.devRef .tc main_arg0)) (V (Proc.devRef .tc main_arg1)) (V (Proc.devRef .tc main_v0)) := by
  refine (dat0 V c).arrAt_eq_of_after_last 3 t0_0 (by decide +kernel : win0_3.WholeAt t0_0) _ fun j => ?_
  rw [after0_3]; rfl
theorem arr0_4 : (dat0 V c).arrAt 4 (cfg0 (F := F)).N = outA4 (V (Proc.devRef .tc main_arg0)) (V (Proc.devRef .tc main_arg1)) (V (Proc.devRef .tc main_v0)) := by
  refine (dat0 V c).arrAt_eq_of_after_last 4 t0_0 (by decide +kernel : win0_4.WholeAt t0_0) _ fun j => ?_
  rw [after0_4]; rfl
theorem arr0_5 : (dat0 V c).arrAt 5 (cfg0 (F := F)).N = outA5 (V (Proc.devRef .tc main_arg1)) := by
  refine (dat0 V c).arrAt_eq_of_after_last 5 t0_0 (by decide +kernel : win0_5.WholeAt t0_0) _ fun j => ?_
  rw [after0_5]; rfl
theorem arr0_6 : (dat0 V c).arrAt 6 (cfg0 (F := F)).N = outA6 (V (Proc.devRef .tc main_arg1)) := by
  refine (dat0 V c).arrAt_eq_of_after_last 6 t0_0 (by decide +kernel : win0_6.WholeAt t0_0) _ fun j => ?_
  rw [after0_6]; rfl
theorem arr0_7 : (dat0 V c).arrAt 7 (cfg0 (F := F)).N = outA7 (V (Proc.devRef .tc main_arg1)) := by
  refine (dat0 V c).arrAt_eq_of_after_last 7 t0_0 (by decide +kernel : win0_7.WholeAt t0_0) _ fun j => ?_
  rw [after0_7]; rfl
theorem arr1_5 : (dat1 V c).arrAt 5 (cfg1 (F := F)).N
    = outB (V (Proc.devRef .tc main_v2)) (V (Proc.devRef .tc main_v3)) (V (Proc.devRef .tc main_v12)) (V (Proc.devRef .tc main_v13)) (V (Proc.devRef .tc main_v11)) := by
  refine (dat1 V c).arrAt_eq_of_after_last 5 t1_0 (by decide +kernel : win1_5.WholeAt t1_0) _ fun j => ?_
  rw [after1_5]; rfl

end Left

end Cert.Proof.PI

end
-- ==== Proof.PI.Vals.lean ====
/-
  The contents of the buffers between the kernel program's two kernels, the two regions' proof data at those contents,
  and the level assignment.
-/
module

public import proofs.«01_k».proof.Proof.PI.Left
public import Idealize.ShloMosaic.Lib.Pipeline.RegionArraysS

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

variable (m : (ℓ : Loc nD τ sig) → Buf (Elt F) ℓ) (ρ : Dev nD → PrngReg)

/-- The buffers after the first kernel: its five results hold what the per-box stage computes of its inputs. -/
def valA (c : Dev nD) : Valuation τ sig (Elt F) :=
  Function.update (Function.update (Function.update (Function.update (Function.update (V1 m c)
    (Proc.devRef .tc main_v1_0) (outA3 (V1 m c (Proc.devRef .tc main_arg0)) (V1 m c (Proc.devRef .tc main_arg1)) (V1 m c (Proc.devRef .tc main_v0))))
    (Proc.devRef .tc main_v1_1) (outA4 (V1 m c (Proc.devRef .tc main_arg0)) (V1 m c (Proc.devRef .tc main_arg1)) (V1 m c (Proc.devRef .tc main_v0))))
    (Proc.devRef .tc main_v1_2) (outA5 (V1 m c (Proc.devRef .tc main_arg1))))
    (Proc.devRef .tc main_v1_3) (outA6 (V1 m c (Proc.devRef .tc main_arg1))))
    (Proc.devRef .tc main_v1_4) (outA7 (V1 m c (Proc.devRef .tc main_arg1)))

/-- What the first kernel leaves in its results. -/
def outsA : Outs (F := F) := fun _ r c => valA m c (Proc.devRef .tc r)

/-- The second kernel's result, of the buffers it is entered with. -/
def resB (c : Dev nD) : Vec F S8x128 .f32 :=
  outB (V13 m (outsA m) c (Proc.devRef .tc main_v2)) (V13 m (outsA m) c (Proc.devRef .tc main_v3)) (V13 m (outsA m) c (Proc.devRef .tc main_v12))
    (V13 m (outsA m) c (Proc.devRef .tc main_v13)) (V13 m (outsA m) c (Proc.devRef .tc main_v11))

/-- What the two kernels leave in their results. -/
def outs : Outs (F := F) := fun n r c => match n with
  | 14 => Function.update (V13 m (outsA m) c) (Proc.devRef .tc main_v14) (resB m c) (Proc.devRef .tc r)
  | _ => valA m c (Proc.devRef .tc r)

theorem V13_outs (c : Dev nD) : V13 m (outs m) c = V13 m (outsA m) c := by
  have h : V2 m (outs m) c = V2 m (outsA m) c := rfl
  simp only [V13, V12, V11, V10, V9, V8, V7, V6, V5, V4, V3, h]

/-- The two regions' proof data. -/
def pdats : (p : Fin 2) → (c : Dev nD) → Dat τ (Elt F) Unit ℕ (UR nD τ) ℕ ((cfgs (F := F)) p) c
  | ⟨0, _⟩, c => dat0 (V1 m c) c
  | ⟨1, _⟩, c => dat1 (V13 m (outs m) c) c

/-- Every cell of a TensorCore has the one index. -/
def Lix : GSem nD τ sig → Finset Unit := fun g => if g.1.2 = .tc then {()} else ∅

/-- The one level. -/
def lvl : GSem nD τ sig → Unit → ℕ := fun _ _ => 0

theorem cut (p : Fin 2) : Pipeline.LevelCut (nD := nD) (τ := τ) (pcfgs (F := F)) adm () Lix lvl p (fun _ => 0) fun _ => 0 where
  hι _ _ _ := by unfold Lix; rw [if_pos rfl]; exact Finset.mem_singleton_self _
  hιb _ _ _ := le_refl _
  hD _ _ _ h := absurd h (lt_irrefl _)

end Cert.Proof.PI

end
-- ==== Proof.PI.Reg.lean ====
/-
  The two kernels' regions: entered with every buffer at the contents the host operations left, left with the kernel's
  results updated and every other buffer as it was.
-/
module

public import proofs.«01_k».proof.Proof.PI.Vals
public import Idealize.ShloMosaic.Lib.Pipeline.RegionArraysS

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

variable (m : (ℓ : Loc nD τ sig) → Buf (Elt F) ℓ) (ρ : Dev nD → PrngReg)

/-! ### What each region leaves -/

theorem ne_of_ref {r r' : Ref sig .tc} (h : r ≠ r') : (Proc.devRef .tc r : DevRef τ sig) ≠ Proc.devRef .tc r' :=
  StableHlo.devRef_ne_of_ne h

theorem valA_0 (c : Dev nD) : valA m c (Proc.devRef .tc main_v1_0)
    = outA3 (V1 m c (Proc.devRef .tc main_arg0)) (V1 m c (Proc.devRef .tc main_arg1)) (V1 m c (Proc.devRef .tc main_v0)) := by
  unfold valA
  rw [Function.update_of_ne (ne_of_ref (by decide)), Function.update_of_ne (ne_of_ref (by decide)),
    Function.update_of_ne (ne_of_ref (by decide)), Function.update_of_ne (ne_of_ref (by decide)), Function.update_self]
theorem valA_1 (c : Dev nD) : valA m c (Proc.devRef .tc main_v1_1)
    = outA4 (V1 m c (Proc.devRef .tc main_arg0)) (V1 m c (Proc.devRef .tc main_arg1)) (V1 m c (Proc.devRef .tc main_v0)) := by
  unfold valA
  rw [Function.update_of_ne (ne_of_ref (by decide)), Function.update_of_ne (ne_of_ref (by decide)),
    Function.update_of_ne (ne_of_ref (by decide)), Function.update_self]
theorem valA_2 (c : Dev nD) : valA m c (Proc.devRef .tc main_v1_2) = outA5 (V1 m c (Proc.devRef .tc main_arg1)) := by
  unfold valA
  rw [Function.update_of_ne (ne_of_ref (by decide)), Function.update_of_ne (ne_of_ref (by decide)), Function.update_self]
theorem valA_3 (c : Dev nD) : valA m c (Proc.devRef .tc main_v1_3) = outA6 (V1 m c (Proc.devRef .tc main_arg1)) := by
  unfold valA
  rw [Function.update_of_ne (ne_of_ref (by decide)), Function.update_self]
theorem valA_4 (c : Dev nD) : valA m c (Proc.devRef .tc main_v1_4) = outA7 (V1 m c (Proc.devRef .tc main_arg1)) := by
  unfold valA
  rw [Function.update_self]

/-- The buffers after the first kernel are those the frame's valuation names. -/
theorem V2_eq (c : Dev nD) : V2 m (outs m) c = valA m c := by
  show Function.update (Function.update (Function.update (Function.update (Function.update (V1 m c)
    (Proc.devRef .tc main_v1_0) (valA m c (Proc.devRef .tc main_v1_0))) (Proc.devRef .tc main_v1_1) (valA m c (Proc.devRef .tc main_v1_1)))
    (Proc.devRef .tc main_v1_2) (valA m c (Proc.devRef .tc main_v1_2))) (Proc.devRef .tc main_v1_3) (valA m c (Proc.devRef .tc main_v1_3)))
    (Proc.devRef .tc main_v1_4) (valA m c (Proc.devRef .tc main_v1_4)) = valA m c
  rw [valA_0, valA_1, valA_2, valA_3, valA_4]
  rfl

theorem V14_eq (c : Dev nD) : V14 m (outs m) c = Function.update (V13 m (outsA m) c) (Proc.devRef .tc main_v14) (resB m c) := by
  show Function.update (V13 m (outs m) c) (Proc.devRef .tc main_v14)
    (Function.update (V13 m (outsA m) c) (Proc.devRef .tc main_v14) (resB m c) (Proc.devRef .tc main_v14)) = _
  rw [Function.update_self, V13_outs]

/-- After the first region every buffer is at the valuation with the five results updated. -/
theorem after_region0 (c : Dev nD) (b : DevRef τ sig) (hb : b ∈ Pipeline.ucRefs τ sig) :
    Pipeline.afterRegion (pdats m 0 c) (V1 m c) b = V2 m (outs m) c b := by
  obtain ⟨r, -, rfl⟩ := Finset.mem_map.mp (Finset.mem_filter.mp hb).1
  show Pipeline.afterRegion (dat0 (V1 m c) c) (V1 m c) (Proc.devRef .tc r) = V2 m (outs m) c (Proc.devRef .tc r)
  by_cases h : r ∈ ([main_v1_0, main_v1_1, main_v1_2, main_v1_3, main_v1_4] : List (Ref sig .tc))
  · rw [V2_eq]
    simp only [List.mem_cons, List.not_mem_nil, or_false] at h
    rcases h with rfl | rfl | rfl | rfl | rfl
    · exact (Pipeline.afterRegion_arr (dat0 (V1 m c) c) (V1 m c) winFacts0.arr_inj 3).trans ((arr0_3 (V1 m c) c).trans (valA_0 m c).symm)
    · exact (Pipeline.afterRegion_arr (dat0 (V1 m c) c) (V1 m c) winFacts0.arr_inj 4).trans ((arr0_4 (V1 m c) c).trans (valA_1 m c).symm)
    · exact (Pipeline.afterRegion_arr (dat0 (V1 m c) c) (V1 m c) winFacts0.arr_inj 5).trans ((arr0_5 (V1 m c) c).trans (valA_2 m c).symm)
    · exact (Pipeline.afterRegion_arr (dat0 (V1 m c) c) (V1 m c) winFacts0.arr_inj 6).trans ((arr0_6 (V1 m c) c).trans (valA_3 m c).symm)
    · exact (Pipeline.afterRegion_arr (dat0 (V1 m c) c) (V1 m c) winFacts0.arr_inj 7).trans ((arr0_7 (V1 m c) c).trans (valA_4 m c).symm)
  · rw [V2_of m (outs m) c r h]
    refine Pipeline.afterRegion_keeps (dat0 (V1 m c) c) (V1 m c) winFacts0.arr_inj (fun _ => rfl) r ?_
    rintro w rfl
    revert h
    exact (by decide : ∀ w : Fin 8, Pipeline.arrRef spec0 w ∉ ([main_v1_0, main_v1_1, main_v1_2, main_v1_3, main_v1_4] : List (Ref sig .tc)) →
      (win0 w).isOut = false) w

/-- After the second region every buffer is at the valuation with the result updated. -/
theorem after_region1 (c : Dev nD) (b : DevRef τ sig) (hb : b ∈ Pipeline.ucRefs τ sig) :
    Pipeline.afterRegion (pdats m 1 c) (V13 m (outs m) c) b = V14 m (outs m) c b := by
  obtain ⟨r, -, rfl⟩ := Finset.mem_map.mp (Finset.mem_filter.mp hb).1
  show Pipeline.afterRegion (dat1 (V13 m (outs m) c) c) (V13 m (outs m) c) (Proc.devRef .tc r) = V14 m (outs m) c (Proc.devRef .tc r)
  by_cases h : r ∈ ([main_v14] : List (Ref sig .tc))
  · simp only [List.mem_cons, List.not_mem_nil, or_false] at h
    subst h
    rw [V14_eq, Function.update_self, V13_outs]
    exact (Pipeline.afterRegion_arr (dat1 (V13 m (outsA m) c) c) (V13 m (outsA m) c) winFacts1.arr_inj 5).trans (arr1_5 (V13 m (outsA m) c) c)
  · rw [V14_of m (outs m) c r h]
    refine Pipeline.afterRegion_keeps (dat1 (V13 m (outs m) c) c) (V13 m (outs m) c) winFacts1.arr_inj (fun _ => rfl) r ?_
    rintro w rfl
    revert h
    exact (by decide : ∀ w : Fin 6, Pipeline.arrRef spec1 w ∉ ([main_v14] : List (Ref sig .tc)) → (win1 w).isOut = false) w

/-! ### The two regions -/

theorem share_pdats (p : Fin 2) (c : Dev nD) (w : Fin ((cfgs (F := F)) p).W) : (pdats m p c).share w = fullShare :=
  match p with
  | ⟨0, _⟩ => (dat0 (V1 m c) c).share_full (fun _ => rfl) w
  | ⟨1, _⟩ => (dat1 (V13 m (outs m) c) c).share_full (fun _ => rfl) w

/-- The rest a core holds beside the buffers: it owes nothing. -/
abbrev rest (_ : Fin 3) (c : Dev nD) : sProp 𝕄 := iprop(∃ W, owes (c : Thread nD τ) (0 : CellTallies nD τ sig Unit) W)

/-- The first kernel's region. -/
def reg0 : Pipeline.RegionSeg (pcfgs (F := F)) adm (pdats m) () defs₀ 𝒱₀ Lix lvl 0 :=
  Pipeline.RegionSeg.ofHeldIn (pcfgs (F := F)) adm (pdats m) () defs₀ 𝒱₀ Lix lvl 0 (fun _ => 0) (Pipeline.ucRefs τ sig)
    (fun _ => iprop(emp)) (fun _ => iprop(emp)) launch0.toP rfl (fun c => (obligation0 (V1 m c) c).loose) (fun _ _ => rfl) (fun _ => rfl)
    (fun c w => share_pdats m 0 c w)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) (cut 0) (fun _ => iprop(emp)) (V1 m) (fun _ _ => rfl)

/-- The second kernel's region. -/
def reg1 : Pipeline.RegionSeg (pcfgs (F := F)) adm (pdats m) () defs₀ 𝒱₀ Lix lvl 1 :=
  Pipeline.RegionSeg.ofHeldIn (pcfgs (F := F)) adm (pdats m) () defs₀ 𝒱₀ Lix lvl 1 (fun _ => 0) (Pipeline.ucRefs τ sig)
    (fun _ => iprop(emp)) (fun _ => iprop(emp)) launch1.toP rfl (fun c => (obligation1 (V13 m (outs m) c) c).loose) (fun _ _ => rfl) (fun _ => rfl)
    (fun c w => share_pdats m 1 c w)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H
      isplitl [H]; · iexact H
      iempintro)
    (fun _ => 0) (cut 1) (fun _ => iprop(emp)) (V13 m (outs m)) (fun _ _ => rfl)

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

theorem reg0_pre (c : Dev nD) :
    iprop(StableHlo.held (c : Thread nD τ) (Pipeline.ucRefs τ sig) (V1 m c) ∗ rest 0 c) ⊢ (reg0 m).pre c := by
  have h : (iprop(StableHlo.held (c : Thread nD τ) (Pipeline.ucRefs τ sig) (V1 m c) ∗ rest 0 c) : sProp 𝕄)
      ⊢ iprop(StableHlo.held (c : Thread nD τ) (Pipeline.ucRefs τ sig) (V1 m c) ∗ (rest 0 c ∗ emp ∗ emp)) := by
    iintro ⟨H, HO⟩
    isplitl [H]; · iexact H
    isplitl [HO]; · iexact HO
    isplitl []; · iempintro
    iempintro
  unfold reg0
  refine BI.Entails.trans ?_ (Pipeline.RegionSeg.ofHeldIn_pre (sub0 (F := F)) c)
  exact h

theorem reg0_post (c : Dev nD) :
    (reg0 m).post c ⊢ iprop(StableHlo.held (c : Thread nD τ) (Pipeline.ucRefs τ sig) (V2 m (outs m) c) ∗ rest 1 c) := by
  unfold reg0
  refine (Pipeline.RegionSeg.ofHeldIn_post (sub0 (F := F)) c).trans ?_
  rw [StableHlo.held_congr (c.tc : Thread nD τ) (after_region0 m c)]
  iintro ⟨H, HO, -, -⟩
  isplitl [H]; · iexact H
  iexact HO

theorem reg1_pre (c : Dev nD) :
    iprop(StableHlo.held (c : Thread nD τ) (Pipeline.ucRefs τ sig) (V13 m (outs m) c) ∗ rest 1 c) ⊢ (reg1 m).pre c := by
  have h : (iprop(StableHlo.held (c : Thread nD τ) (Pipeline.ucRefs τ sig) (V13 m (outs m) c) ∗ rest 1 c) : sProp 𝕄)
      ⊢ iprop(StableHlo.held (c : Thread nD τ) (Pipeline.ucRefs τ sig) (V13 m (outs m) c) ∗ (rest 1 c ∗ emp ∗ emp)) := by
    iintro ⟨H, HO⟩
    isplitl [H]; · iexact H
    isplitl [HO]; · iexact HO
    isplitl []; · iempintro
    iempintro
  unfold reg1
  refine BI.Entails.trans ?_ (Pipeline.RegionSeg.ofHeldIn_pre (sub1 (F := F)) c)
  exact h

theorem reg1_post (c : Dev nD) :
    (reg1 m).post c ⊢ iprop(StableHlo.held (c : Thread nD τ) (Pipeline.ucRefs τ sig) (V14 m (outs m) c) ∗ rest 2 c) := by
  unfold reg1
  refine (Pipeline.RegionSeg.ofHeldIn_post (sub1 (F := F)) c).trans ?_
  rw [StableHlo.held_congr (c.tc : Thread nD τ) (after_region1 m c)]
  iintro ⟨H, HO, -, -⟩
  isplitl [H]; · iexact H
  iexact HO

end Cert.Proof.PI

end
-- ==== Proof.PI.Run.lean ====
/-
  The run of the kernel program: from any launch memory with zero counters it ends, the three arguments as launched, the
  result at the last valuation of the host operations, every counter at zero.
-/
module

public import proofs.«01_k».proof.Proof.PI.Reg

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf kernel pipe)

variable {F : FTy → Type} [FloatOps F]

local notation "𝕄" => MT nD τ sig Unit (Elt F) ℕ (UR nD τ) ℕ

variable (m : (ℓ : Loc nD τ sig) → Buf (Elt F) ℓ) (ρ : Dev nD → PrngReg)

/-- The launch element of the rounds library: every staging cell at round 0, a duty token for every transfer. -/
def u₀ : UR nD τ := initOf (Pipeline.cells (cfgs (F := F)) cellOf_inj) (Pipeline.launchToks (cfgs (F := F)) cellOf_inj)

/-- The launch element makes the cells' owners; no further ghost resource is needed. -/
theorem u₀_split : (ownU (u₀ (F := F)) : sProp 𝕄) ⊢ |={Set.univ}=>
    iprop(BI.own (EP (initOf (Pipeline.cells (cfgs (F := F)) cellOf_inj) (Pipeline.launchToks (cfgs (F := F)) cellOf_inj)))
      ∗ bigSep Finset.univ fun _ : Dev nD => (iprop(emp) : sProp 𝕄)) := by
  have h : (ownU (u₀ (F := F)) : sProp 𝕄)
      ⊢ BI.own (EP (initOf (Pipeline.cells (cfgs (F := F)) cellOf_inj) (Pipeline.launchToks (cfgs (F := F)) cellOf_inj))) := BI.Entails.refl _
  iintro H
  ihave H := h $$ H
  imodintro
  isplitl [H]; · iexact H
  iapply (show (BI.emp : sProp 𝕄) ⊢ bigSep Finset.univ (fun _ : Dev nD => (BI.emp : sProp 𝕄)) from by rw [BI.bigSep_emp_const])
  iempintro

/-- Each core's rest at the launch: it owes nothing. -/
theorem rest_launch :
    iprop((bigSep Finset.univ fun c : Dev nD => iprop(unscopedSems0 c ∗ owes (c : Thread nD τ) (0 : CellTallies nD τ sig Unit) ∅
        ∗ Pipeline.launchCred (fun _ => 0) c ∗ prngReg c (ρ c) ∗ (iprop(emp) : sProp 𝕄))) ∗ levAts Lix lvl)
      ⊢ (|={Set.univ}=> bigSep Finset.univ (rest 0) : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ (iprop(emp) : sProp 𝕄))) ⊢ bigSep Finset.univ (rest 0) :=
    bigSep_mono fun c _ => by
      show (iprop(unscopedSems0 c ∗ owes (c : Thread nD τ) (0 : CellTallies nD τ sig Unit) ∅
        ∗ Pipeline.launchCred (fun _ => 0) c ∗ prngReg c (ρ c) ∗ emp) : sProp 𝕄) ⊢ iprop(∃ W, owes (c : Thread nD τ) (0 : CellTallies nD τ sig Unit) W)
      iintro ⟨-, H, -, -, -⟩
      iexists ∅
      iexact H
  iintro ⟨H, -⟩
  ihave H := h $$ H
  imodintro
  iexact H

theorem Lix_tc (g : GSem nD τ sig) (h : g.1.2 ≠ .tc) : Lix g = ∅ := if_neg h

set_option backward.isDefEq.respectTransparency.types false in
/-- From any launch memory with zero counters, every weakly fair execution of the kernel program ends, and every final
    state holds the arguments as launched, the result at the last valuation, and every counter at zero. -/
theorem run_main : θ_run defs (onTc (τ := τ) (main (F := F))) ⟨m, fun _ => 0, ρ⟩ (fun r => (∀ c : Dev nD,
      r.2.mem ((c.tc : Thread nD τ).loc main_v17) = V15 m (outs m) c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ 𝒱₀ Lix lvl m ρ main
    (segs m (outs m) 𝒱₀ Lix lvl rest () (pdats m) (reg0 m) (reg1 m))
    (fun c Q => by
      rewrite [main_chain c, Seg.run_eq_chain,
        show (segs m (outs m) 𝒱₀ Lix lvl rest () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) Lix_tc (fun _ => iprop(emp)) u₀ u₀_split
    (T₀ := fun c => iprop(StableHlo.held (c : Thread nD τ) (Pipeline.ucRefs τ sig) (V0 m c) ∗ rest 0 c))
    (Tₙ := fun c => StableHlo.held (c : Thread nD τ) (Pipeline.ucRefs τ sig) (V15 m (outs m) c))
    (hch := fun c => ⟨.rfl, reg0_pre m c, reg0_post m c, .rfl, .rfl, .rfl, .rfl, .rfl, .rfl, .rfl, .rfl, .rfl, .rfl, reg1_pre m c, reg1_post m c, .rfl⟩)
    (hinit := ?_)
    (QY := fun c s => s.mem ((c.tc : Thread nD τ).loc main_v17) = V15 m (outs m) c (Proc.devRef .tc main_v17)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · -- the launch: the buffers at their launch contents, and each core owing nothing
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ emp)) : sProp 𝕄) := by
      rw [← bigSep_sep']
      exact bigSep_mono fun c _ => by
        rw [← Pipeline.unscopedBufs_held (Ix := Unit) (Name := ℕ) (U := UR nD τ) (Lvl := ℕ) c (V0 m c)]; exact BI.Entails.refl _
    iintro ⟨H, Hla⟩
    ihave H' := hsplit $$ H
    icases H' with ⟨Hh, Hr⟩
    imod (rest_launch ρ) $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      exact ⟨h (Proc.devRef .tc main_v17) (Finset.mem_filter.mpr ⟨StableHlo.devRef_mem_tcRefs main_v17, by decide⟩),
        (h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_arg2) (Finset.mem_filter.mpr ⟨StableHlo.devRef_mem_tcRefs main_arg2, by decide⟩)).trans (V15_main_arg2 m (outs m) c)⟩
    · iexact HSI

end Cert.Proof.PI

end
-- ==== Proof.RI.Frame.lean ====
/-
  The frame of the reference program: its run, read at the three arguments; it declares no semaphore.
-/
module

public import proofs.«01_k».proof.Proof.Gen.ReferenceIdeal.Run

@[expose] public section

noncomputable section

namespace Cert.Proof.RI

open Cert.ReferenceIdeal Cert.ReferenceIdeal.Gen Cert.ReferenceIdeal.Value
open Idealize.ShloMosaic Idealize.ShloMosaic.StableHlo Idealize.ShloMosaic.TcCoe
open Idealize.SL.Sem

variable {F : FTy → Type} [FloatOps F]
variable (m : (ℓ : Loc nD τ sig) → Buf (Elt F) ℓ) (ρ : Dev nD → PrngReg)

/-- The program declares no semaphore of either kind. -/
theorem no_sem (g : GSem nD τ sig) : False := by
  obtain ⟨_, s | s⟩ := g
  · exact s.elim0
  · exact s.elim0

/-- Every weakly fair execution of the reference ends, every buffer of the program at the fold of its operations, and
    every counter at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 5000 m c (Proc.devRef .tc b)) ∧ r.2.sem = fun _ => 0) :=
  (θ_run defs _ _).mono (fun _ h => ⟨h, funext fun g => (no_sem g).elim⟩) (run_fold m ρ)

/-- The references the stretch writing the constant −1 writes. -/
abbrev post17_W : List (Ref sig .tc) := [main_cst_35]
theorem post17_writes : (hostOps0_17 : List (HloOp τ sig (Elt F))).Forall fun op => op.writes ⊆ (post17_W.map (Proc.devRef (τ := τ) .tc)).toFinset :=
  StableHlo.forall_writes_sub_of_map rfl
/-- The references the stretch of the final scores writes. -/
abbrev post18_W : List (Ref sig .tc) := [main_call9_v0, main_call9_v1, main_v187]
theorem post18_writes : (hostOps0_18 : List (HloOp τ sig (Elt F))).Forall fun op => op.writes ⊆ (post18_W.map (Proc.devRef (τ := τ) .tc)).toFinset :=
  StableHlo.forall_writes_sub_of_map rfl
/-- The references the stretch of the detections writes. -/
abbrev post19_W : List (Ref sig .tc) := [main_values, main_indices, main_c_36, main_v188, main_v189, main_c_37, main_v190, main_v191, main_v192, main_v193, main_v194, main_cst_38, main_v195, main_v196, main_v197, main_v198, main_c_39, main_v199, main_v200, main_c_40, main_v201, main_v202, main_v203, main_v204, main_v205, main_c_41, main_v206, main_v207, main_c_42, main_v208, main_v209, main_v210, main_v211, main_v212, main_v213, main_v214, main_c_43, main_v215, main_v216, main_c_44, main_v217, main_v218, main_v219, main_v220, main_v221, main_v222, main_v223, main_v224, main_v225]
theorem post19_writes : (hostOps0_19 : List (HloOp τ sig (Elt F))).Forall fun op => op.writes ⊆ (post19_W.map (Proc.devRef (τ := τ) .tc)).toFinset :=
  StableHlo.forall_writes_sub_of_map rfl

/-- Every reference the program writes before its loop. -/
abbrev pre_W : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W
/-- Every reference a trip or the trip test writes. -/
abbrev loop_W : List (Ref sig .tc) := condOps_W ++ while0Ops0_W ++ while0Ops0_1_W ++ while0Ops0_2_W
/-- Every reference the program writes after its loop. -/
abbrev post_W : List (Ref sig .tc) := post17_W ++ post18_W ++ post19_W

/-- A reference no stretch of a trip writes is the same after any number of trips. -/
theorem atTrip_kept (V : Dev nD → Valuation τ sig (Elt F)) (c : Dev nD) (r : Ref sig .tc) (h : r ∉ loop_W) (n : ℕ) :
    atTrip condOps bodyI V n c (Proc.devRef .tc r) = V c (Proc.devRef .tc r) := by
  simp only [loop_W, List.mem_append, not_or] at h
  obtain ⟨⟨⟨h0, h1⟩, h2⟩, h3⟩ := h
  induction n with
  | zero => rfl
  | succ n ih =>
    rw [atTrip_succ]
    simp only [bodyI, afterL_cons, afterL_nil]
    rw [StableHlo.after_of_writes_sub _ _ while0Ops0_2_writes h3, StableHlo.after_of_writes_sub _ _ while0Ops0_1_writes h2,
      StableHlo.after_of_writes_sub _ _ while0Ops0_writes h1, StableHlo.after_of_writes_sub _ _ condOps_writes h0, ih]

/-- A reference nothing writes before the loop is at the loop's entry as at the start. -/
theorem entry_kept (c : Dev nD) (r : Ref sig .tc) (h : r ∉ pre_W) :
    entryContents preI m c (Proc.devRef .tc r) = m ((c.tc : Thread nD τ).loc r) := by
  simp only [pre_W, List.mem_append, not_or] at h
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  simp only [entryContents, preI, afterL_cons, afterL_nil]
  rw [StableHlo.after_of_writes_sub _ _ hostOps0_16_writes h16,
    StableHlo.after_of_writes_sub _ _ hostOps0_15_writes h15,
    StableHlo.after_of_writes_sub _ _ hostOps0_14_writes h14,
    StableHlo.after_of_writes_sub _ _ hostOps0_13_writes h13,
    StableHlo.after_of_writes_sub _ _ hostOps0_12_writes h12,
    StableHlo.after_of_writes_sub _ _ hostOps0_11_writes h11,
    StableHlo.after_of_writes_sub _ _ hostOps0_10_writes h10,
    StableHlo.after_of_writes_sub _ _ hostOps0_9_writes h9,
    StableHlo.after_of_writes_sub _ _ hostOps0_8_writes h8,
    StableHlo.after_of_writes_sub _ _ hostOps0_7_writes h7,
    StableHlo.after_of_writes_sub _ _ hostOps0_6_writes h6,
    StableHlo.after_of_writes_sub _ _ hostOps0_5_writes h5,
    StableHlo.after_of_writes_sub _ _ hostOps0_4_writes h4,
    StableHlo.after_of_writes_sub _ _ hostOps0_3_writes h3,
    StableHlo.after_of_writes_sub _ _ hostOps0_2_writes h2,
    StableHlo.after_of_writes_sub _ _ hostOps0_1_writes h1,
    StableHlo.after_of_writes_sub _ _ hostOps0_writes h0]

/-- A reference nothing writes ends as it started. -/
theorem final_kept (c : Dev nD) (r : Ref sig .tc) (h : r ∉ pre_W) (h' : r ∉ loop_W) (h'' : r ∉ post_W) :
    finalContents condOps preI bodyI postI 5000 m c (Proc.devRef .tc r) = m ((c.tc : Thread nD τ).loc r) := by
  simp only [post_W, List.mem_append, not_or] at h''
  obtain ⟨⟨h1, h2⟩, h3⟩ := h''
  simp only [finalContents, postI, afterL_cons, afterL_nil]
  rw [StableHlo.after_of_writes_sub _ _ post19_writes h3, StableHlo.after_of_writes_sub _ _ post18_writes h2,
    StableHlo.after_of_writes_sub _ _ post17_writes h1,
    StableHlo.after_of_writes_sub _ _ condOps_writes (fun hm => h' (by simp only [loop_W, List.mem_append]; exact .inl (.inl (.inl hm)))),
    atTrip_kept _ c r h', entry_kept m c r h]

/-- The three arguments end as they started. -/
theorem args_kept (c : Dev nD) :
    finalContents condOps preI bodyI postI 5000 m c (Proc.devRef .tc main_arg0) = m ((c.tc : Thread nD τ).loc main_arg0)
    ∧ finalContents condOps preI bodyI postI 5000 m c (Proc.devRef .tc main_arg1) = m ((c.tc : Thread nD τ).loc main_arg1)
    ∧ finalContents condOps preI bodyI postI 5000 m c (Proc.devRef .tc main_arg2) = m ((c.tc : Thread nD τ).loc main_arg2) :=
  ⟨final_kept m c _ (by decide +kernel) (by decide +kernel) (by decide +kernel),
    final_kept m c _ (by decide +kernel) (by decide +kernel) (by decide +kernel),
    final_kept m c _ (by decide +kernel) (by decide +kernel) (by decide +kernel)⟩

/-- Every weakly fair execution of the reference ends with its result as the fold reads it, its arguments unchanged and
    every counter at zero. -/
theorem run_args : θ_run (defs (F := F)) (onTc (τ := τ) (main (F := F))) ⟨m, fun _ => 0, ρ⟩
    (fun r => (∀ c : Dev nD, r.2.mem ((c.tc : Thread nD τ).loc main_v225) = finalContents condOps preI bodyI postI 5000 m c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨h.1 c _ rfl, (h.1 c _ rfl).trans (args_kept m c).1,
    (h.1 c _ rfl).trans (args_kept m c).2.1, (h.1 c _ rfl).trans (args_kept m c).2.2⟩, h.2⟩) (run_main m ρ)

end Cert.Proof.RI

end
-- ==== Proof.Nms.Pre.lean ====
/-
  What the precondition says of the regions: they are in order.
-/
module

public import proofs.«01_k».proof.Pre_ordered
public import Idealize.ShloMosaic.Lib.Pointwise
public import Idealize.ShloMosaic.Lib.ValueIdx
public import Idealize.ShloMosaic.PureOps.Ideal

@[expose] public section
noncomputable section
namespace Cert.Proof.Nms

open Idealize.ShloMosaic Cert.Pre_ordered

/-- The side conditions of the precondition's operations. -/
theorem pre_facts : Cert.Pre_ordered.Facts where
  slices_S5000x4_S5000x1_0_0 := by decide
  shapeCasts_S5000x1_S5000 := by decide
  slices_S5000x4_S5000x1_0_2 := by decide
  reducesTo_S5000_S_d0 := by decide
  h_S_ := by decide
  slices_S5000x4_S5000x1_0_1 := by decide
  slices_S5000x4_S5000x1_0_3 := by decide

theorem fold_andi {ι : Type} [DecidableEq ι] (P : ι → Prop) [DecidablePred P] (S : Finset ι)
    (h : Finset.fold IntOp.andi 1#1 (fun i => BitVec.ofBool (decide (P i))) S = 1#1) : ∀ i ∈ S, P i := by
  induction S using Finset.induction_on with
  | empty => intro i hi; exact absurd hi (Finset.notMem_empty _)
  | insert a S ha ih =>
    rw [Finset.fold_insert ha] at h
    have h2 : ∀ u v : BitVec 1, IntOp.andi u v = 1#1 → u = 1#1 ∧ v = 1#1 := by decide
    obtain ⟨h3, h4⟩ := h2 _ _ h
    intro i hi
    rcases Finset.mem_insert.mp hi with rfl | hi
    · by_contra hn
      rw [decide_eq_false hn] at h3
      exact absurd h3 (by decide)
    · exact ih h4 i hi

/-- Where the precondition holds every region is in order. -/
theorem ordered_spec [Cert.Pre_ordered.Facts] (x : Vec Ideal S5000x4 .f32) (p : Vec Ideal S5000x81 .f32) (d : Vec Ideal S5000x81x4 .f32)
    (h : Cert.Pre_ordered.fn (F := Ideal) x p d = fun _ => 1#1) (i : Fin 5000) :
    (x (ix2 i 0) : EReal) ≤ x (ix2 i 2) ∧ (x (ix2 i 1) : EReal) ≤ x (ix2 i 3) := by
  have h0 := congrFun h (Shape.Idx.first Facts.h_S_)
  revert h0
  unfold Cert.Pre_ordered.fn
  pointwise
  intro h0
  have h2 : ∀ u v : BitVec 1, IntOp.andi u v = 1#1 → u = 1#1 ∧ v = 1#1 := by decide
  obtain ⟨h3, h4⟩ := h2 _ _ h0
  exact ⟨fold_andi (fun i : Fin 5000 => (x (ix2 i 0) : EReal) ≤ x (ix2 i 2)) _ h3 i (Finset.mem_univ _),
    fold_andi (fun i : Fin 5000 => (x (ix2 i 1) : EReal) ≤ x (ix2 i 3)) _ h4 i (Finset.mem_univ _)⟩

end Cert.Proof.Nms
end
-- ==== Proof.Nms.Lit.lean ====
/- The literals' exact values. -/
module

public import Idealize.ShloMosaic.PureOps.Ideal

@[expose] public section

namespace Cert.Proof.Nms

open Idealize.ShloMosaic

theorem lit_neg_one : Ideal.ofBits .f32 0xBF800000#32 = -1 := by
  rw [show (-1 : EReal) = ((-1 : ℝ) : EReal) by simp]
  simp [Ideal.ofBits, Ideal.ieee, -EReal.coe_mul, -EReal.coe_neg]; norm_num
theorem lit_one : Ideal.ofBits .f32 0x3F800000#32 = 1 := by
  rw [show (1 : EReal) = ((1 : ℝ) : EReal) by simp]
  simp [Ideal.ofBits, Ideal.ieee, -EReal.coe_mul]; norm_num
theorem lit_5120 : Ideal.ofBits .f32 0x45A00000#32 = ((5120 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_2049 : Ideal.ofBits .f32 0x45001000#32 = ((2049 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_half : Ideal.ofBits .f32 0x3F000000#32 = ((1 / 2 : ℝ) : EReal) := by
  simp [Ideal.ofBits, Ideal.ieee, -EReal.coe_mul]; norm_num
/-- The overlap threshold. -/
theorem lit_thr : Ideal.ofBits .f32 0x3E99999A#32 = ((10066330 / 33554432 : ℝ) : EReal) := by
  simp [Ideal.ofBits, Ideal.ieee, -EReal.coe_mul]; norm_num
/-- The least confidence. -/
theorem lit_conf : Ideal.ofBits .f32 0x3D4CCCCD#32 = ((13421773 / 268435456 : ℝ) : EReal) := by
  simp [Ideal.ofBits, Ideal.ieee, -EReal.coe_mul]; norm_num
/-- The least divisor. -/
theorem lit_eps : ∃ e : ℝ, 0 < e ∧ e < 1 ∧ Ideal.ofBits .f32 0x322BCC77#32 = (e : EReal) := by
  refine ⟨11258999 / 2 ^ 50, by norm_num, by norm_num, ?_⟩
  simp [Ideal.ofBits, Ideal.ieee, -EReal.coe_mul]; norm_num

end Cert.Proof.Nms
-- ==== Proof.Nms.Spec.lean ====
/-
  The per-box stage in plain mathematics: the best class of a row, the refined box, the overlap of two boxes in the two
  ways it is tested, and when the two agree.
-/
module

public import proofs.«01_k».proof.Proof.Nms.Lit
public import Idealize.ShloMosaic.Lib.Pointwise
public import Mathlib.Data.EReal.Operations
public import Mathlib.Data.EReal.Inv

@[expose] public section

noncomputable section

namespace Cert.Proof.Nms

open Idealize.ShloMosaic

/-! ### The best class -/

/-- `c` is the first place of a row's greatest value. -/
def IsTop (r : Fin 81 → EReal) (c : Fin 81) : Prop := (∀ j, r j ≤ r c) ∧ ∀ j, j < c → r j < r c

theorem exists_isTop (r : Fin 81 → EReal) : ∃ c, IsTop r c := by
  classical
  obtain ⟨m, -, hm⟩ := Finset.exists_max_image Finset.univ r ⟨0, Finset.mem_univ _⟩
  have hne : (Finset.univ.filter fun j => r j = r m).Nonempty := ⟨m, by simp⟩
  obtain ⟨c, hc, hmin⟩ := Finset.exists_min_image _ id hne
  have hcm : r c = r m := by simpa using hc
  refine ⟨c, fun j => hcm ▸ hm j (Finset.mem_univ _), fun j hj => ?_⟩
  refine lt_of_le_of_ne (hcm ▸ hm j (Finset.mem_univ _)) fun he => ?_
  have := hmin j (by simpa using he.trans hcm)
  exact absurd hj (not_lt.mpr this)

/-- The first place of a row's greatest value. -/
def top (r : Fin 81 → EReal) : Fin 81 := Classical.choose (exists_isTop r)

theorem top_spec (r : Fin 81 → EReal) : IsTop r (top r) := Classical.choose_spec (exists_isTop r)

theorem IsTop.eq_top {r : Fin 81 → EReal} {c : Fin 81} (h : IsTop r c) : c = top r := by
  rcases lt_trichotomy c (top r) with g | g | g
  · exact absurd ((top_spec r).2 _ g) (not_lt.mpr (h.1 _))
  · exact g
  · exact absurd (h.2 _ g) (not_lt.mpr ((top_spec r).1 _))

theorem fold_max_top (r : Fin 81 → EReal) : Finset.fold max (Ideal.ofBits .f32 0xFF800000#32) r Finset.univ = r (top r) := by
  rw [lit_bot]
  refine le_antisymm (Finset.fold_max_le _ |>.mpr ⟨bot_le, fun j _ => (top_spec r).1 j⟩) ?_
  exact (Finset.le_fold_max _).mpr (.inr ⟨_, Finset.mem_univ _, le_refl _⟩)

theorem toInt_small {n : ℕ} (h : n < 2 ^ 31) : (BitVec.ofNat 32 n).toInt = n := by
  rw [BitVec.toInt_eq_toNat_of_lt (by rw [BitVec.toNat_ofNat]; omega), BitVec.toNat_ofNat]
  omega

theorem fold_minsi {ι : Type} [DecidableEq ι] (b : BitVec 32) (f : ι → BitVec 32) (S : Finset ι) :
    (Finset.fold IntOp.minsi b f S = b ∨ ∃ x ∈ S, Finset.fold IntOp.minsi b f S = f x)
      ∧ (Finset.fold IntOp.minsi b f S).toInt ≤ b.toInt ∧ ∀ x ∈ S, (Finset.fold IntOp.minsi b f S).toInt ≤ (f x).toInt := by
  have hs : ∀ x y : BitVec 32, IntOp.minsi x y = if x.toInt < y.toInt then x else y := fun x y => by
    unfold IntOp.minsi
    rw [BitVec.slt_eq_decide]
    by_cases h : x.toInt < y.toInt
    · rw [if_pos h, if_pos (decide_eq_true h)]
    · rw [if_neg h, if_neg (by simpa using h)]
  induction S using Finset.induction_on with
  | empty => exact ⟨.inl rfl, le_refl _, fun x hx => absurd hx (Finset.notMem_empty _)⟩
  | insert a S ha ih =>
    obtain ⟨h1, h2, h3⟩ := ih
    rw [Finset.fold_insert ha, hs]
    by_cases h : (f a).toInt < (Finset.fold IntOp.minsi b f S).toInt
    · rw [if_pos h]
      refine ⟨.inr ⟨a, Finset.mem_insert_self _ _, rfl⟩, by omega, fun x hx => ?_⟩
      rcases Finset.mem_insert.mp hx with rfl | hx
      · exact le_refl _
      · have := h3 x hx; omega
    · rw [if_neg h]
      refine ⟨?_, h2, fun x hx => ?_⟩
      · rcases h1 with h1 | ⟨x, hx, h1⟩
        · exact .inl h1
        · exact .inr ⟨x, Finset.mem_insert_of_mem hx, h1⟩
      · rcases Finset.mem_insert.mp hx with rfl | hx
        · omega
        · exact h3 x hx

theorem fold_min_top (r : Fin 81 → EReal) :
    Finset.fold IntOp.minsi 2147483647#32 (fun x : Fin 81 => if r x = r (top r) then BitVec.ofNat 32 x.val else 81#32) Finset.univ
      = BitVec.ofNat 32 (top r).val := by
  obtain ⟨h1, h2, h3⟩ := fold_minsi 2147483647#32 (fun x : Fin 81 => if r x = r (top r) then BitVec.ofNat 32 x.val else 81#32) Finset.univ
  have ht := h3 (top r) (Finset.mem_univ _)
  rw [if_pos rfl, toInt_small (by omega)] at ht
  rcases h1 with h1 | ⟨x, -, h1⟩
  · rw [h1] at ht
    have : (2147483647#32 : BitVec 32).toInt = 2147483647 := by decide
    omega
  · rw [h1] at ht ⊢
    by_cases hx : r x = r (top r)
    · rw [if_pos hx] at ht ⊢
      rw [toInt_small (by omega)] at ht
      have h4 : ¬ x < top r := fun hlt => absurd ((top_spec r).2 x hlt) (by rw [hx]; exact lt_irrefl _)
      have : x = top r := Fin.ext (by rw [Fin.lt_def] at h4; omega)
      rw [this]
    · rw [if_neg hx] at ht
      have : (81#32 : BitVec 32).toInt = 81 := by decide
      omega

/-! ### The refined box -/

/-- A refined box's low coordinate along an axis, of the box's two coordinates, the shift and the logarithm of the scale. -/
def lo (a b δ η : EReal) : EReal :=
  a + Ideal.ofBits .f32 0x3F000000#32 * (b - a) + δ * (b - a) - Ideal.ofBits .f32 0x3F000000#32 * ((b - a) * Ideal.exp η)
/-- Its high coordinate. -/
def hi (a b δ η : EReal) : EReal := lo a b δ η + (b - a) * Ideal.exp η
/-- A coordinate in pixels, clipped to the image and rounded. -/
def rnd (z : EReal) : EReal :=
  Ideal.liftRound Ideal.roundHalfEven (min (Ideal.ofBits .f32 0x44800000#32) (max 0 (z * Ideal.ofBits .f32 0x44800000#32)))
/-- The refined box. -/
def refine4 (x δ : Fin 4 → EReal) : Fin 4 → EReal :=
  ![rnd (lo (x 0) (x 2) (δ 0) (δ 2)), rnd (lo (x 1) (x 3) (δ 1) (δ 3)), rnd (hi (x 0) (x 2) (δ 0) (δ 2)), rnd (hi (x 1) (x 3) (δ 1) (δ 3))]

theorem exp_nonneg (η : EReal) : 0 ≤ Ideal.exp η := by
  induction η with
  | bot => exact le_refl _
  | top => exact le_top
  | coe r => exact EReal.coe_nonneg.mpr (Real.exp_pos r).le

theorem bot_mul_nonneg {e : EReal} (h : 0 ≤ e) : ⊥ * e = ⊥ ∨ ⊥ * e = (0 : EReal) := by
  rcases h.lt_or_eq with h | h
  · exact .inl (EReal.bot_mul_of_pos h)
  · exact .inr (by rw [← h, mul_zero])

theorem sub_cases {a b : EReal} (h : a ≤ b) : 0 ≤ b - a ∨ b - a = ⊥ := by
  induction a with
  | bot =>
    induction b with
    | bot => exact .inr rfl
    | top => exact .inl le_top
    | coe r => exact .inl le_top
  | top => rw [top_le_iff.mp h]; exact .inr rfl
  | coe r =>
    induction b with
    | bot => exact absurd h (by simp)
    | top => exact .inl le_top
    | coe s =>
      left
      rw [← EReal.coe_sub]
      exact EReal.coe_nonneg.mpr (sub_nonneg.mpr (EReal.coe_le_coe_iff.mp h))

/-- A box in order stays in order. -/
theorem lo_le_hi {a b : EReal} (h : a ≤ b) (δ η : EReal) : lo a b δ η ≤ hi a b δ η := by
  unfold hi
  rcases sub_cases h with h' | h'
  · have : 0 ≤ (b - a) * Ideal.exp η := mul_nonneg h' (exp_nonneg η)
    exact le_add_of_nonneg_right this
  · have hl : lo a b δ η = ⊥ := by
      unfold lo
      rw [h', lit_half, EReal.coe_mul_bot_of_pos (by norm_num), EReal.add_bot, EReal.bot_add, sub_eq_add_neg, EReal.bot_add]
    rw [hl]; exact bot_le

theorem rhe_cases (r : ℝ) : Ideal.roundHalfEven r = ⌊r⌋ ∨ Ideal.roundHalfEven r = ⌊r⌋ + 1 := by
  unfold Ideal.roundHalfEven
  dsimp only
  split_ifs <;> simp

theorem rhe_mono {r s : ℝ} (h : r ≤ s) : Ideal.roundHalfEven r ≤ Ideal.roundHalfEven s := by
  have hf := Int.floor_mono h
  rcases hf.lt_or_eq with hlt | heq
  · have := rhe_cases r; have := rhe_cases s; omega
  · have hr : r - ⌊r⌋ ≤ s - ⌊s⌋ := by rw [heq]; linarith
    unfold Ideal.roundHalfEven
    dsimp only
    rw [← heq] at hr ⊢
    split_ifs <;> first | omega | (exfalso; linarith)

theorem clip_real (z : EReal) : ∃ r : ℝ, min (Ideal.ofBits .f32 0x44800000#32) (max 0 z) = (r : EReal) := by
  rw [lit_1024]
  have h0 : (0 : EReal) ≤ min ((1024 : ℝ) : EReal) (max 0 z) := le_min (EReal.coe_nonneg.mpr (by norm_num)) (le_max_left _ _)
  have h1 : min ((1024 : ℝ) : EReal) (max 0 z) ≤ ((1024 : ℝ) : EReal) := min_le_left _ _
  refine ⟨(min ((1024 : ℝ) : EReal) (max 0 z)).toReal, (EReal.coe_toReal ?_ ?_).symm⟩
  · exact ne_of_lt (h1.trans_lt (EReal.coe_lt_top _))
  · exact ne_of_gt (lt_of_lt_of_le EReal.bot_lt_zero h0)

/-- A rounded coordinate is an integer. -/
theorem rnd_int (z : EReal) : ∃ n : ℤ, rnd z = ((n : ℝ) : EReal) := by
  obtain ⟨r, hr⟩ := clip_real (z * Ideal.ofBits .f32 0x44800000#32)
  exact ⟨_, by unfold rnd; rw [hr]; rfl⟩

theorem rnd_mono {z w : EReal} (h : z ≤ w) : rnd z ≤ rnd w := by
  obtain ⟨r, hr⟩ := clip_real (z * Ideal.ofBits .f32 0x44800000#32)
  obtain ⟨s, hs⟩ := clip_real (w * Ideal.ofBits .f32 0x44800000#32)
  have hm : z * Ideal.ofBits .f32 0x44800000#32 ≤ w * Ideal.ofBits .f32 0x44800000#32 := by
    rw [lit_1024]
    exact mul_le_mul_of_nonneg_right h (EReal.coe_nonneg.mpr (by norm_num))
  have hrs : (r : EReal) ≤ s := by
    rw [← hr, ← hs]
    exact min_le_min_left _ (max_le_max_left _ hm)
  unfold rnd
  rw [hr, hs]
  exact EReal.coe_le_coe_iff.mpr (by exact_mod_cast rhe_mono (EReal.coe_le_coe_iff.mp hrs))

/-! ### The overlap -/

/-- A box with integer coordinates, in order. -/
def Good (a : Fin 4 → EReal) : Prop := ∃ n : Fin 4 → ℤ, (∀ c, a c = ((n c : ℝ) : EReal)) ∧ n 0 ≤ n 2 ∧ n 1 ≤ n 3

/-- A refined box of a box in order, moved by a multiple of its class. -/
theorem good_refine4 (x δ : Fin 4 → EReal) (h0 : x 0 ≤ x 2) (h1 : x 1 ≤ x 3) (k : ℕ) :
    Good fun c => refine4 x δ c + ((k : ℝ) : EReal) * Ideal.ofBits .f32 0x45001000#32 := by
  have hi0 := rnd_mono (lo_le_hi h0 (δ 0) (δ 2))
  have hi1 := rnd_mono (lo_le_hi h1 (δ 1) (δ 3))
  obtain ⟨n0, e0⟩ := rnd_int (lo (x 0) (x 2) (δ 0) (δ 2))
  obtain ⟨n1, e1⟩ := rnd_int (lo (x 1) (x 3) (δ 1) (δ 3))
  obtain ⟨n2, e2⟩ := rnd_int (hi (x 0) (x 2) (δ 0) (δ 2))
  obtain ⟨n3, e3⟩ := rnd_int (hi (x 1) (x 3) (δ 1) (δ 3))
  rw [e0, e2, EReal.coe_le_coe_iff] at hi0
  rw [e1, e3, EReal.coe_le_coe_iff] at hi1
  have hn0 : n0 ≤ n2 := by exact_mod_cast hi0
  have hn1 : n1 ≤ n3 := by exact_mod_cast hi1
  refine ⟨![n0 + k * 2049, n1 + k * 2049, n2 + k * 2049, n3 + k * 2049], fun c => ?_, by simpa using hn0, by simpa using hn1⟩
  have key : ∀ n : ℤ, ((n : ℝ) : EReal) + ((k : ℝ) : EReal) * ((2049 : ℝ) : EReal) = (((n + k * 2049 : ℤ) : ℝ) : EReal) := by
    intro n; push_cast; rfl
  unfold refine4
  rw [lit_2049]
  fin_cases c
  · show rnd (lo (x 0) (x 2) (δ 0) (δ 2)) + _ = _; rw [e0, key]; rfl
  · show rnd (lo (x 1) (x 3) (δ 1) (δ 3)) + _ = _; rw [e1, key]; rfl
  · show rnd (hi (x 0) (x 2) (δ 0) (δ 2)) + _ = _; rw [e2, key]; rfl
  · show rnd (hi (x 1) (x 3) (δ 1) (δ 3)) + _ = _; rw [e3, key]; rfl

/-- The area of a box's overlap with another. -/
def interE (a b : Fin 4 → EReal) : EReal := max (min (a 2) (b 2) - max (a 0) (b 0)) 0 * max (min (a 3) (b 3) - max (a 1) (b 1)) 0
/-- A box's area. -/
def areaE (a : Fin 4 → EReal) : EReal := (a 2 - a 0) * (a 3 - a 1)
/-- The area of two boxes' union. -/
def unionE (a b : Fin 4 → EReal) : EReal := areaE a + areaE b - interE a b
/-- The overlap test by a product. -/
def ovK (a b : Fin 4 → EReal) : Prop := Ideal.ofBits .f32 0x3E99999A#32 * unionE a b < interE a b
/-- The overlap test by a quotient. -/
def ovR (a b : Fin 4 → EReal) : Prop :=
  Ideal.ofBits .f32 0x3E99999A#32 < Ideal.div (interE a b) (max (unionE a b) (Ideal.ofBits .f32 0x322BCC77#32))

theorem inter_int (n m : Fin 4 → ℤ) : interE (fun c => ((n c : ℝ) : EReal)) (fun c => ((m c : ℝ) : EReal))
    = (((max (min (n 2) (m 2) - max (n 0) (m 0)) 0 * max (min (n 3) (m 3) - max (n 1) (m 1)) 0 : ℤ) : ℝ) : EReal) := by
  have hmax : ∀ a b : ℤ, max ((a : ℝ) : EReal) ((b : ℝ) : EReal) = ((max a b : ℤ) : ℝ) := fun a b => by
    rw [Int.cast_max, EReal.coe_strictMono.monotone.map_max]
  have hmin : ∀ a b : ℤ, min ((a : ℝ) : EReal) ((b : ℝ) : EReal) = ((min a b : ℤ) : ℝ) := fun a b => by
    rw [Int.cast_min, EReal.coe_strictMono.monotone.map_min]
  have hsub : ∀ a b : ℤ, ((a : ℝ) : EReal) - ((b : ℝ) : EReal) = ((a - b : ℤ) : ℝ) := fun a b => by
    rw [← EReal.coe_sub]; push_cast; rfl
  have h0 : (0 : EReal) = (((0 : ℤ) : ℝ) : EReal) := by simp
  unfold interE
  rw [hmin, hmin, hmax, hmax, hsub, hsub, h0, hmax, hmax, ← EReal.coe_mul]
  push_cast; rfl

theorem area_int (n : Fin 4 → ℤ) : areaE (fun c => ((n c : ℝ) : EReal)) = ((((n 2 - n 0) * (n 3 - n 1) : ℤ) : ℝ) : EReal) := by
  unfold areaE
  rw [← EReal.coe_sub, ← EReal.coe_sub, ← EReal.coe_mul]
  push_cast; rfl

theorem inter_le (a0 a1 a2 a3 b0 b1 b2 b3 : ℤ) (h0 : a0 ≤ a2) (h1 : a1 ≤ a3) :
    max (min a2 b2 - max a0 b0) 0 * max (min a3 b3 - max a1 b1) 0 ≤ (a2 - a0) * (a3 - a1) := by
  refine mul_le_mul (max_le ?_ (by omega)) (max_le ?_ (by omega)) (le_max_right _ _) (by omega)
  · have := min_le_left a2 b2; have := le_max_left a0 b0; omega
  · have := min_le_left a3 b3; have := le_max_left a1 b1; omega

/-- For two good boxes the two overlap tests agree. -/
theorem ov_iff {a b : Fin 4 → EReal} (ha : Good a) (hb : Good b) : ovK a b ↔ ovR a b := by
  obtain ⟨n, hn, n0, n1⟩ := ha
  obtain ⟨m, hm, m0, m1⟩ := hb
  obtain rfl : a = fun c => ((n c : ℝ) : EReal) := funext hn
  obtain rfl : b = fun c => ((m c : ℝ) : EReal) := funext hm
  obtain ⟨e, he0, he1, he⟩ := lit_eps
  unfold ovK ovR unionE
  rw [inter_int, area_int, area_int, he, lit_thr]
  have hA := inter_le (n 0) (n 1) (n 2) (n 3) (m 0) (m 1) (m 2) (m 3) n0 n1
  have hB := inter_le (m 0) (m 1) (m 2) (m 3) (n 0) (n 1) (n 2) (n 3) m0 m1
  rw [min_comm (m 2), min_comm (m 3), max_comm (m 0), max_comm (m 1)] at hB
  have hI : 0 ≤ max (min (n 2) (m 2) - max (n 0) (m 0)) 0 * max (min (n 3) (m 3) - max (n 1) (m 1)) 0 :=
    mul_nonneg (le_max_right _ _) (le_max_right _ _)
  generalize max (min (n 2) (m 2) - max (n 0) (m 0)) 0 * max (min (n 3) (m 3) - max (n 1) (m 1)) 0 = I at hA hB hI ⊢
  generalize (n 2 - n 0) * (n 3 - n 1) = A at hA ⊢
  generalize (m 2 - m 0) * (m 3 - m 1) = B at hB ⊢
  have hu : ((A : ℝ) : EReal) + ((B : ℝ) : EReal) - ((I : ℝ) : EReal) = (((A + B - I : ℤ) : ℝ) : EReal) := by
    rw [← EReal.coe_add, ← EReal.coe_sub]; push_cast; rfl
  rw [hu]
  have hU : I ≤ A + B - I := by omega
  generalize A + B - I = U at hU ⊢
  rw [← EReal.coe_mul, EReal.coe_lt_coe_iff, ← EReal.coe_strictMono.monotone.map_max]
  have hpos : (0 : ℝ) < max (U : ℝ) e := lt_max_of_lt_right he0
  have hdiv : Ideal.div ((I : ℝ) : EReal) ((max (U : ℝ) e : ℝ) : EReal) = (((I : ℝ) / max (U : ℝ) e : ℝ) : EReal) := by
    unfold Ideal.div
    rw [if_neg (by exact_mod_cast hpos.ne'), ← EReal.coe_inv, ← EReal.coe_mul]
    rfl
  rw [hdiv, EReal.coe_lt_coe_iff, lt_div_iff₀ hpos]
  rcases (by omega : U = 0 ∨ 1 ≤ U) with h | h
  · have hI0 : I = 0 := by omega
    subst h hI0
    simp only [Int.cast_zero, mul_zero, lt_irrefl, false_iff, not_lt]
    positivity
  · have h1 : (1 : ℝ) ≤ U := by exact_mod_cast h
    rw [max_eq_left (by linarith)]

end Cert.Proof.Nms

end
-- ==== Proof.Nms.Row.lean ====
module

public import proofs.«01_k».proof.Proof.Nms.Spec

@[expose] public section
noncomputable section
namespace Cert.Proof.Nms

open Idealize.ShloMosaic

/-- What the four refinements are scaled by. -/
def stdv : Fin 4 → EReal :=
  ![Ideal.ofBits .f32 0x3DCCCCCD#32, Ideal.ofBits .f32 0x3DCCCCCD#32, Ideal.ofBits .f32 0x3E4CCCCD#32, Ideal.ofBits .f32 0x3E4CCCCD#32]

/-- A row's refined box: the region `x`, refined by what its best class has in `d`. -/
def boxOf (x : Fin 4 → EReal) (p : Fin 81 → EReal) (d : Fin 81 → Fin 4 → EReal) : Fin 4 → EReal :=
  refine4 x fun e => d (top p) e * stdv e

/-- A row's box, moved by its class so that boxes of different classes lie apart. -/
def offOf (x : Fin 4 → EReal) (p : Fin 81 → EReal) (d : Fin 81 → Fin 4 → EReal) : Fin 4 → EReal :=
  fun c => boxOf x p d c + (((top p).val : ℝ) : EReal) * Ideal.ofBits .f32 0x45001000#32

/-- A row is kept when its best class is not the background and its score is high enough. -/
def keptOf (p : Fin 81 → EReal) : Prop := 0 < (top p).val ∧ Ideal.ofBits .f32 0x3D4CCCCD#32 ≤ p (top p)

open Classical in
/-- A row's score, −1 for a row that is not kept. -/
def scoreOf (p : Fin 81 → EReal) : EReal := if keptOf p then p (top p) else Ideal.ofBits .f32 0xBF800000#32

theorem conf_pos : (0 : EReal) < Ideal.ofBits .f32 0x3D4CCCCD#32 := by
  obtain h := lit_conf
  simp_all

theorem score_pos (p : Fin 81 → EReal) (h : 0 ≤ scoreOf p) : 0 < scoreOf p := by
  unfold scoreOf at h ⊢
  split_ifs at h ⊢ with hk
  · exact conf_pos.trans_le hk.2
  · exfalso
    rw [lit_neg_one] at h
    have : (0 : ℝ) ≤ -1 := EReal.coe_le_coe_iff.mp (by simpa using h)
    linarith

theorem kept_iff (p : Fin 81 → EReal) : 0 ≤ scoreOf p ↔ keptOf p := by
  constructor
  · intro h
    by_contra hk
    unfold scoreOf at h
    rw [if_neg hk, lit_neg_one] at h
    have : (0 : ℝ) ≤ -1 := EReal.coe_le_coe_iff.mp (by simpa using h)
    linarith
  · intro hk
    unfold scoreOf
    rw [if_pos hk]
    exact conf_pos.le.trans hk.2

theorem good_offOf (x : Fin 4 → EReal) (p : Fin 81 → EReal) (d : Fin 81 → Fin 4 → EReal) (h0 : x 0 ≤ x 2) (h1 : x 1 ≤ x 3) :
    Good (offOf x p d) := good_refine4 x _ h0 h1 _

end Cert.Proof.Nms
end
-- ==== Proof.PI.ValA.lean ====
/-
  The first kernel's values at the exact instance, a row at a time.
-/
module

public import proofs.«01_k».proof.Proof.PI.Common
public import proofs.«01_k».proof.Proof.Nms.Row
public import Idealize.ShloMosaic.Lib.Pointwise
public import Idealize.ShloMosaic.Lib.Pipeline.ValueKit
public import Idealize.ShloMosaic.Lib.ValueIdx
public import Idealize.ShloMosaic.PureOps.Ideal

@[expose] public section

noncomputable section

namespace Cert.Proof.PI

open Cert.KernelIdeal Cert.KernelIdeal.Gen
open Idealize.ShloMosaic
open Cert.Proof.Nms

variable (x : Vec Ideal S5000x4 .f32) (p : Vec Ideal S5000x81 .f32) (d : Vec Ideal S5000x324 .f32)

theorem colA_apply (c : Fin 4) (h : ∀ a, (![0, c.val] : Fin 2 → ℕ) a + S5000x1.size a ≤ S5000x4.size a) (i : Fin 5000) :
    colA ![0, c.val] h x (ix2 i 0) = x (ix2 i c) := by
  unfold colA
  show x _ = x _
  congr 1
  funext a; apply Fin.ext
  refine (ValueKit.rect_emb_unit_val (s := S5000x4) _ _ h _ a).trans ?_
  fin_cases a <;> simp <;> rfl

theorem a76_apply (i : Fin 5000) : a76 x (ix2 i 0) = x (ix2 i 0) := colA_apply x 0 _ i
theorem a77_apply (i : Fin 5000) : a77 x (ix2 i 0) = x (ix2 i 1) := colA_apply x 1 _ i
theorem a78_apply (i : Fin 5000) : a78 x (ix2 i 0) = x (ix2 i 2) := colA_apply x 2 _ i
theorem a79_apply (i : Fin 5000) : a79 x (ix2 i 0) = x (ix2 i 3) := colA_apply x 3 _ i

theorem pay5_apply (i : Fin 5000) : k0_pay5 p (ix2 i 0) = p (ix2 i (top fun j => p (ix2 i j))) := by
  unfold k0_pay5
  pointwise
  exact fold_max_top fun j => p (ix2 i j)

theorem pay6_apply (i : Fin 5000) : k0_pay6 p (ix2 i 0) = BitVec.ofNat 32 (top fun j => p (ix2 i j)).val := by
  unfold k0_pay6
  pointwise
  rw [pay5_apply]
  refine Eq.trans ?_ (fold_min_top fun j => p (ix2 i j))
  first | rfl | (congr 1; funext y; split_ifs <;> rfl)

theorem class_real {n : ℕ} (h : n < 2 ^ 31) : FloatOps.sitofp (F := Ideal) .f32 (BitVec.ofNat 32 n) = ((n : ℝ) : EReal) := by
  show (((BitVec.ofNat 32 n).toInt : ℝ) : EReal) = _
  rw [toInt_small h]; simp

theorem pay7_word (l : Fin 324) : (Scalar.select
      (IntOp.andi
        (IntOp.cmpi CmpIPredicate.ne
          (IntOp.subi (BitVec.setWidth 32 (IntOp.cmpi CmpIPredicate.sgt (BitVec.ofNat 32 ↑l) 0#32))
            (BitVec.setWidth 32 (IntOp.cmpi CmpIPredicate.slt (BitVec.ofNat 32 ↑l) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 ↑l) 4#32) 0#32))
      (IntOp.subi (IntOp.divsi ArithUnit.vector (BitVec.ofNat 32 ↑l) 4#32) 1#32)
      (IntOp.divsi ArithUnit.vector (BitVec.ofNat 32 ↑l) 4#32) : BitVec 32) =
    BitVec.ofNat 32 (l.val / 4) := by
  revert l
  decide +kernel

theorem pay7_apply (i : Fin 5000) (l : Fin 324) : k0_pay7 (ix2 i l) = BitVec.ofNat 32 (l.val / 4) := by
  unfold k0_pay7
  pointwise
  exact pay7_word l

theorem rem_word (l : Fin 324) : IntOp.subi (BitVec.ofNat 32 l.val) (IntOp.muli (BitVec.ofNat 32 (l.val / 4)) 4#32) = BitVec.ofNat 32 (l.val % 4) := by
  revert l
  decide +kernel

theorem cmp_word {a b : ℕ} (ha : a < 2 ^ 32) (hb : b < 2 ^ 32) : IntOp.cmpi .eq (BitVec.ofNat 32 a) (BitVec.ofNat 32 b) = if a = b then 1#1 else 0#1 := by
  by_cases h : a = b
  · subst h; rw [if_pos rfl]; simp [IntOp.cmpi]
  · rw [if_neg h]
    have : ¬ BitVec.ofNat 32 a = BitVec.ofNat 32 b := fun e => h (by
      have := congrArg BitVec.toNat e
      rwa [BitVec.toNat_ofNat, BitVec.toNat_ofNat, Nat.mod_eq_of_lt ha, Nat.mod_eq_of_lt hb] at this)
    show BitVec.ofBool (_ == _) = _
    rw [beq_eq_false_iff_ne.mpr this]; rfl

/-- Summing a row masked to one entry of one class leaves that entry. -/
theorem pick_sum (f : Fin 324 → EReal) (w : Fin 324 → BitVec 32) (t : Fin 81) (e : Fin 4) (b v : BitVec 32) (hw : ∀ l, w l = BitVec.ofNat 32 (l.val / 4))
    (hb : b = BitVec.ofNat 32 t.val) (hv : v = BitVec.ofNat 32 e.val) (h : 4 * t.val + e.val < 324) :
    (∑ l : Fin 324, Scalar.select (IntOp.cmpi .eq (IntOp.subi (BitVec.ofNat 32 l.val) (IntOp.muli (w l) 4#32)) v)
      (Scalar.select (IntOp.cmpi .eq (w l) b) (f l) 0) 0) = f ⟨4 * t.val + e.val, h⟩ := by
  subst hb hv
  have h1 : ∀ l : Fin 324, Scalar.select (IntOp.cmpi .eq (IntOp.subi (BitVec.ofNat 32 l.val) (IntOp.muli (w l) 4#32)) (BitVec.ofNat 32 e.val))
      (Scalar.select (IntOp.cmpi .eq (w l) (BitVec.ofNat 32 t.val)) (f l) 0) (0 : EReal)
      = if l = ⟨4 * t.val + e.val, h⟩ then f l else 0 := by
    intro l
    rw [hw l, rem_word, cmp_word (by omega) (by omega), cmp_word (by omega) (by omega)]
    by_cases a : l.val % 4 = e.val
    · by_cases c : l.val / 4 = t.val
      · rw [if_pos a, if_pos c, if_pos (Fin.ext (by show l.val = 4 * t.val + e.val; omega))]; rfl
      · rw [if_pos a, if_neg c, if_neg (fun g : l = _ => c (by have : l.val = 4 * t.val + e.val := congrArg Fin.val g; omega))]; rfl
    · have hl : ¬ l = ⟨4 * t.val + e.val, h⟩ := fun g => a (by have : l.val = 4 * t.val + e.val := congrArg Fin.val g; omega)
      rw [if_neg a, if_neg hl]; rfl
  rw [Finset.sum_congr rfl fun l _ => h1 l, Finset.sum_ite_eq' Finset.univ, if_pos (Finset.mem_univ _)]

/-- A row's regions. -/
def rowX (i : Fin 5000) : Fin 4 → EReal := fun c => x (ix2 i c)
/-- A row's scores. -/
def rowP (i : Fin 5000) : Fin 81 → EReal := fun j => p (ix2 i j)
/-- A row's refinements, by class. -/
def rowD (i : Fin 5000) : Fin 81 → Fin 4 → EReal := fun j e => d (ix2 i ⟨4 * j.val + e.val, by omega⟩)
/-- The refinement taken for a row. -/
def rowE (i : Fin 5000) : Fin 4 → EReal := fun e => rowD d i (top (rowP p i)) e * stdv e

theorem a51_apply (i : Fin 5000) : a51 p d (ix2 i 0) = rowE p d i 0 := by
  unfold a51 k0_pay10 k0_pay8 k0_pay9
  pointwise
  refine congrArg (fun z : EReal => z * Ideal.ofBits .f32 0x3DCCCCCD#32) ?_
  exact pick_sum (fun l => d (ix2 i l)) _ (top (rowP p i)) 0 _ _ (fun l => pay7_apply i l) (pay6_apply p i) rfl (by omega)
theorem a59_apply (i : Fin 5000) : a59 p d (ix2 i 0) = rowE p d i 1 := by
  unfold a59 k0_pay11 k0_pay8 k0_pay9
  pointwise
  refine congrArg (fun z : EReal => z * Ideal.ofBits .f32 0x3DCCCCCD#32) ?_
  exact pick_sum (fun l => d (ix2 i l)) _ (top (rowP p i)) 1 _ _ (fun l => pay7_apply i l) (pay6_apply p i) rfl (by omega)
theorem a67_apply (i : Fin 5000) : a67 p d (ix2 i 0) = rowE p d i 2 := by
  unfold a67 k0_pay12 k0_pay8 k0_pay9
  pointwise
  refine congrArg (fun z : EReal => z * Ideal.ofBits .f32 0x3E4CCCCD#32) ?_
  exact pick_sum (fun l => d (ix2 i l)) _ (top (rowP p i)) 2 _ _ (fun l => pay7_apply i l) (pay6_apply p i) rfl (by omega)
theorem a75_apply (i : Fin 5000) : a75 p d (ix2 i 0) = rowE p d i 3 := by
  unfold a75 k0_pay13 k0_pay8 k0_pay9
  pointwise
  refine congrArg (fun z : EReal => z * Ideal.ofBits .f32 0x3E4CCCCD#32) ?_
  exact pick_sum (fun l => d (ix2 i l)) _ (top (rowP p i)) 3 _ _ (fun l => pay7_apply i l) (pay6_apply p i) rfl (by omega)

theorem a103_apply (i : Fin 5000) : a103 x p d (ix2 i 0) = hi (rowX x i 1) (rowX x i 3) (rowE p d i 1) (rowE p d i 3) := by
  unfold a103 k0_pay20 k0_pay19 k0_pay17 k0_pay15
  pointwise
  simp only [a76_apply, a77_apply, a78_apply, a79_apply, a51_apply, a59_apply, a67_apply, a75_apply]
  rfl
theorem a110_apply (i : Fin 5000) : a110 x p d (ix2 i 0) = rnd (lo (rowX x i 0) (rowX x i 2) (rowE p d i 0) (rowE p d i 2)) := by
  unfold a110 k0_pay21 k0_pay18 k0_pay16 k0_pay14
  pointwise
  simp only [a76_apply, a77_apply, a78_apply, a79_apply, a51_apply, a59_apply, a67_apply, a75_apply]
  rfl
theorem a117_apply (i : Fin 5000) : a117 x p d (ix2 i 0) = rnd (lo (rowX x i 1) (rowX x i 3) (rowE p d i 1) (rowE p d i 3)) := by
  unfold a117 k0_pay22 k0_pay19 k0_pay17 k0_pay15
  pointwise
  simp only [a76_apply, a77_apply, a78_apply, a79_apply, a51_apply, a59_apply, a67_apply, a75_apply]
  rfl
theorem a124_apply (i : Fin 5000) : a124 x p d (ix2 i 0) = rnd (hi (rowX x i 0) (rowX x i 2) (rowE p d i 0) (rowE p d i 2)) := by
  unfold a124 k0_pay23 k0_pay18 k0_pay16 k0_pay14
  pointwise
  simp only [a76_apply, a77_apply, a78_apply, a79_apply, a51_apply, a59_apply, a67_apply, a75_apply]
  rfl

theorem outA3_apply (i : Fin 5000) (c : Fin 4) : outA3 x p d (ix2 i c) = boxOf (rowX x i) (rowP p i) (rowD d i) c := by
  unfold outA3 k0_pay1
  pointwise
  by_cases h0 : c.val < 1
  · obtain rfl : c = 0 := Fin.ext (by show c.val = 0; omega)
    exact (dif_pos h0).trans (a110_apply x p d i)
  by_cases h1 : c.val - 1 < 1
  · obtain rfl : c = 1 := Fin.ext (by show c.val = 1; omega)
    exact (dif_neg h0).trans ((dif_pos h1).trans (a117_apply x p d i))
  by_cases h2 : c.val - 1 - 1 < 1
  · obtain rfl : c = 2 := Fin.ext (by show c.val = 2; omega)
    exact (dif_neg h0).trans ((dif_neg h1).trans ((dif_pos h2).trans (a124_apply x p d i)))
  obtain rfl : c = 3 := Fin.ext (by show c.val = 3; omega)
  refine (dif_neg h0).trans ((dif_neg h1).trans ((dif_neg h2).trans ?_))
  have h := congrArg rnd (a103_apply x p d i)
  exact h
theorem outA4_apply (i : Fin 5000) (c : Fin 4) : outA4 x p d (ix2 i c) = offOf (rowX x i) (rowP p i) (rowD d i) c := by
  unfold outA4 k0_pay3 k0_pay2
  pointwise
  rw [pay6_apply, class_real (by omega)]
  exact congrArg (fun z : EReal => z + (((top (rowP p i)).val : ℝ) : EReal) * Ideal.ofBits .f32 0x45001000#32) (outA3_apply x p d i c)
theorem outA5_apply (i : Fin 5000) : outA5 p (ix2 i 0) = (((top (rowP p i)).val : ℝ) : EReal) := by
  unfold outA5 k0_pay2
  pointwise
  rw [pay6_apply]
  exact class_real (by omega)
theorem outA6_apply (i : Fin 5000) : outA6 p (ix2 i 0) = rowP p i (top (rowP p i)) := pay5_apply p i
theorem sgt_word {n : ℕ} (h : n < 2 ^ 31) : IntOp.cmpi .sgt (BitVec.ofNat 32 n) 0#32 = BitVec.ofBool (decide (0 < n)) := by
  show BitVec.ofBool (BitVec.slt 0#32 (BitVec.ofNat 32 n)) = _
  rw [BitVec.slt_eq_decide, toInt_small h]
  have : (0#32 : BitVec 32).toInt = 0 := rfl
  rw [this]
  congr 1
  exact decide_eq_decide.mpr (by omega)
theorem outA7_apply (i : Fin 5000) : outA7 p (ix2 i 0) = scoreOf (rowP p i) := by
  unfold outA7 k0_pay4
  pointwise
  rw [pay6_apply, pay5_apply, sgt_word (by omega)]
  show Scalar.select (IntOp.andi (BitVec.ofBool (decide (0 < (top (rowP p i)).val))) (BitVec.ofBool (decide (Ideal.ofBits .f32 0x3D4CCCCD#32 ≤ rowP p i (top (rowP p i))))))
    (rowP p i (top (rowP p i))) (Ideal.ofBits .f32 0xBF800000#32) = scoreOf (rowP p i)
  unfold scoreOf keptOf
  by_cases h1 : 0 < (top (rowP p i)).val
  · by_cases h2 : Ideal.ofBits .f32 0x3D4CCCCD#32 ≤ rowP p i (top (rowP p i))
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]
    cases decide (Ideal.ofBits .f32 0x3D4CCCCD#32 ≤ rowP p i (top (rowP p i))) <;> rfl
end Cert.Proof.PI

end
-- ==== Proof.Nms.Abs.lean ====
/-
  Greedy suppression, away from any program: the set a suppression leaves is the one fixpoint of a monotone-in-rank
  step; repeated steps reach it; sorting by score and then by position puts the survivors in the order of their ranks.
-/
module

public import Mathlib.Data.Fintype.Card
public import Mathlib.Data.Fintype.BigOperators
public import Mathlib.Data.EReal.Operations
public import Mathlib.Order.WellFounded
public import Idealize.ShloMosaic.Lib.SortFacts

@[expose] public section

namespace Cert.Proof.Nms

open Idealize.ShloMosaic

/-- `A` is what greedy suppression by `m` leaves of `keep`. -/
def Fix {ι : Type} (keep : ι → Prop) (m : ι → ι → Prop) (A : ι → Prop) : Prop := ∀ j, A j ↔ keep j ∧ ¬ ∃ i, A i ∧ m i j

/-- Two sets a suppression leaves are equal when every suppressor comes before what it suppresses in a rank. -/
theorem Fix.unique {ι : Type} {keep : ι → Prop} {m : ι → ι → Prop} {A B : ι → Prop} (r : ι → ℕ)
    (hr : ∀ i j, m i j → r i < r j) (hA : Fix keep m A) (hB : Fix keep m B) : ∀ j, A j ↔ B j := by
  intro j
  induction h : r j using Nat.strong_induction_on generalizing j with
  | _ n ih =>
    subst h
    rw [hA j, hB j]
    refine and_congr_right fun _ => not_congr (exists_congr fun i => ?_)
    constructor
    · rintro ⟨a, b⟩; exact ⟨(ih _ (hr i j b) i rfl).mp a, b⟩
    · rintro ⟨a, b⟩; exact ⟨(ih _ (hr i j b) i rfl).mpr a, b⟩

/-- One step of the suppression. -/
def step {ι : Type} (keep : ι → Prop) (m : ι → ι → Prop) (A : ι → Prop) : ι → Prop := fun j => keep j ∧ ¬ ∃ i, A i ∧ m i j

/-- After `n` steps every element of rank below `n` is settled. -/
theorem step_settled {ι : Type} {keep : ι → Prop} {m : ι → ι → Prop} (r : ι → ℕ) (hr : ∀ i j, m i j → r i < r j)
    (A : ℕ → ι → Prop) (hA : ∀ n j, A (n + 1) j ↔ step keep m (A n) j) (n : ℕ) : ∀ j, r j < n → (A n j ↔ A (n + 1) j) := by
  induction n with
  | zero => intro j h; omega
  | succ n ih =>
    intro j h
    rw [hA n j, hA (n + 1) j]
    refine and_congr_right fun _ => not_congr (exists_congr fun i => ?_)
    constructor
    · rintro ⟨a, b⟩; exact ⟨(ih i (by have := hr i j b; omega)).mp a, b⟩
    · rintro ⟨a, b⟩; exact ⟨(ih i (by have := hr i j b; omega)).mpr a, b⟩

/-- Before, in the order by score and then by position. -/
def prec {n : ℕ} (s : Fin n → EReal) (i j : Fin n) : Prop := s j < s i ∨ (s i = s j ∧ i < j)

theorem prec_irrefl {n : ℕ} (s : Fin n → EReal) (i : Fin n) : ¬ prec s i i := by
  rintro (h | ⟨_, h⟩) <;> exact lt_irrefl _ h

theorem prec_trans {n : ℕ} (s : Fin n → EReal) {i j k : Fin n} (h : prec s i j) (h' : prec s j k) : prec s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem prec_total {n : ℕ} (s : Fin n → EReal) (i j : Fin n) : prec s i j ∨ i = j ∨ prec s j i := by
  rcases lt_trichotomy (s i) (s j) with h | h | h
  · exact .inr (.inr (.inl h))
  · rcases lt_trichotomy i j with g | g | g
    · exact .inl (.inr ⟨h, g⟩)
    · exact .inr (.inl g)
    · exact .inr (.inr (.inr ⟨h.symm, g⟩))
  · exact .inl (.inl h)

open Classical in
/-- How many come before. -/
noncomputable def rk {n : ℕ} (s : Fin n → EReal) (j : Fin n) : ℕ := (Finset.univ.filter fun i => prec s i j).card

theorem rk_lt {n : ℕ} (s : Fin n → EReal) {i j : Fin n} (h : prec s i j) : rk s i < rk s j := by
  classical
  refine Finset.card_lt_card ⟨fun a ha => ?_, fun hsub => ?_⟩
  · simp only [Finset.mem_filter, Finset.mem_univ, true_and] at ha ⊢; exact prec_trans s ha h
  · have := hsub (by simpa using h : i ∈ _)
    simp only [Finset.mem_filter, Finset.mem_univ, true_and] at this
    exact prec_irrefl s i this

theorem rk_lt_card {n : ℕ} (s : Fin n → EReal) (j : Fin n) : rk s j < n := by
  classical
  have : (Finset.univ.filter fun i => prec s i j).card < (Finset.univ : Finset (Fin n)).card := by
    refine Finset.card_lt_card ⟨Finset.filter_subset _ _, fun hsub => ?_⟩
    have := hsub (Finset.mem_univ j)
    simp only [Finset.mem_filter, Finset.mem_univ, true_and] at this
    exact prec_irrefl s j this
  simpa [rk] using this

/-- The stable sort by descending score of a list in position order is in the order by score and then by position. -/
theorem pairwise_stableSort_prec {n : ℕ} (s : Fin n → EReal) (R : Fin n → Fin n → Bool) (hR : ∀ i j, R i j = true ↔ s j < s i) (l : List (Fin n))
    (hl : l.Pairwise (· < ·)) : (stableSort R l).Pairwise (prec s) := by
  have ins : ∀ (a : Fin n) (l : List (Fin n)), (∀ b ∈ l, a < b) → l.Pairwise (prec s) → (insertBefore R a l).Pairwise (prec s) := by
    intro a l
    induction l with
    | nil => intro _ _; exact List.pairwise_singleton _ _
    | cons b l ih =>
      intro hlt hp
      rw [List.pairwise_cons] at hp
      unfold insertBefore
      split
      · rename_i hba
        rw [List.pairwise_cons]
        refine ⟨fun x hx => ?_, ih (fun c hc => hlt c (List.mem_cons_of_mem _ hc)) hp.2⟩
        rcases List.mem_cons.mp ((perm_insertBefore R a l).mem_iff.mp hx) with rfl | hx
        · exact .inl ((hR b x).mp hba)
        · exact hp.1 x hx
      · rename_i hba
        have hab : prec s a b := by
          rcases lt_or_eq_of_le (not_lt.mp (fun h => hba ((hR b a).mpr h)) : s b ≤ s a) with h | h
          · exact .inl h
          · exact .inr ⟨h.symm, hlt b (List.mem_cons_self ..)⟩
        rw [List.pairwise_cons]
        refine ⟨fun x hx => ?_, List.pairwise_cons.mpr hp⟩
        rcases List.mem_cons.mp hx with rfl | hx
        · exact hab
        · exact prec_trans s hab (hp.1 x hx)
  induction l with
  | nil => exact List.Pairwise.nil
  | cons a l ih =>
    rw [List.pairwise_cons] at hl
    unfold stableSort
    exact ins a _ (fun b hb => hl.1 b ((perm_stableSort R l).mem_iff.mp hb)) (ih hl.2)

/-- The sorting permutation by descending score puts earlier what comes before. -/
theorem sortedFrom_prec {n : ℕ} (s : Fin n → EReal) (R : Fin n → Fin n → Bool) (hR : ∀ i j, R i j = true ↔ s j < s i) (i j : Fin n) (hij : i < j) :
    prec s (sortedFrom R i) (sortedFrom R j) := by
  have hp := List.pairwise_iff_get.mp (pairwise_stableSort_prec s R hR (List.finRange n) (List.pairwise_lt_finRange n))
  unfold sortedFrom
  exact hp _ _ hij

/-- As many come before the `k`-th of the sorted order as `k` says. -/
theorem rk_sorted {n : ℕ} (s : Fin n → EReal) (σ : Fin n → Fin n) (hb : Function.Bijective σ) (h : ∀ i j, i < j → prec s (σ i) (σ j)) (k : Fin n) :
    rk s (σ k) = k := by
  classical
  have : (Finset.univ.filter fun i => prec s i (σ k)) = (Finset.Iio k).image σ := by
    ext i
    obtain ⟨q, rfl⟩ := hb.2 i
    simp only [Finset.mem_filter, Finset.mem_univ, true_and, Finset.mem_image, Finset.mem_Iio]
    constructor
    · intro hp
      refine ⟨q, ?_, rfl⟩
      rcases lt_trichotomy q k with g | g | g
      · exact g
      · subst g; exact absurd hp (prec_irrefl s _)
      · exact absurd (prec_trans s hp (h k q g)) (prec_irrefl s _)
    · rintro ⟨q', hq', e⟩
      rw [← hb.1 e]; exact h _ _ hq'
  rw [rk, this, Finset.card_image_of_injective _ hb.1, Fin.card_Iio]

section select

variable {n : ℕ} (s : Fin n → EReal) (keep : Fin n → Prop) (ov : Fin n → Fin n → Prop) (A A' : Fin n → Prop)
  (π τ : Fin n → Fin n) (f : Fin n → EReal)

/-- The two ways of suppressing agree: by score and position over the boxes as given, and by position over the boxes
    sorted. -/
theorem alive_iff (hb : Function.Bijective π) (hπ : ∀ i j, i < j → prec s (π i) (π j))
    (hA : Fix keep (fun i j => ov i j ∧ prec s i j) A) (hA' : Fix (fun p => keep (π p)) (fun p q => p < q ∧ ov (π p) (π q)) A') (p : Fin n) :
    A' p ↔ A (π p) := by
  have hlt : ∀ p q, p < q ↔ prec s (π p) (π q) := by
    intro p q
    refine ⟨hπ p q, fun h => ?_⟩
    rcases lt_trichotomy p q with g | g | g
    · exact g
    · subst g; exact absurd h (prec_irrefl s _)
    · exact absurd (prec_trans s h (hπ q p g)) (prec_irrefl s _)
  have hAπ : Fix (fun p => keep (π p)) (fun p q => p < q ∧ ov (π p) (π q)) (fun p => A (π p)) := by
    intro q
    show A (π q) ↔ _
    rw [hA (π q)]
    refine and_congr_right fun _ => not_congr ⟨?_, ?_⟩
    · rintro ⟨i, hi, ho, hp⟩
      obtain ⟨p, rfl⟩ := hb.2 i
      exact ⟨p, hi, (hlt p q).mpr hp, ho⟩
    · rintro ⟨p, hi, hp, ho⟩
      exact ⟨π p, hi, ho, (hlt p q).mp hp⟩
  exact Fix.unique (fun p => p.val) (fun p q h => h.1) hA' hAπ p

open Classical in
/-- How many survivors come before. -/
noncomputable def rank (j : Fin n) : ℕ := (Finset.univ.filter fun i => A i ∧ prec s i j).card

variable (hb : Function.Bijective π) (hπ : ∀ i j, i < j → prec s (π i) (π j)) (hAA : ∀ p, A' p ↔ A (π p))
  (hτb : Function.Bijective τ) (hτ : ∀ i j, i < j → prec f (τ i) (τ j))
  (hf : ∀ p, A' p → f p = s (π p)) (hf' : ∀ p, ¬ A' p → f p = -1) (hpos : ∀ i, A i → 0 < s i)
include hb hπ hAA hτb hτ hf hf' hpos

/-- A surviving position of the order by final score is that of its rank among the survivors. -/
theorem rank_alive (k : Fin n) (hk : A' (τ k)) : rank s A (π (τ k)) = k := by
  classical
  rw [← rk_sorted f τ hτb hτ k, rank, rk]
  have hneg : (-1 : EReal) < 0 := by
    have h : ((-1 : ℝ) : EReal) < ((0 : ℝ) : EReal) := by exact_mod_cast (by norm_num : (-1 : ℝ) < 0)
    simpa using h
  have key : ∀ q, (A (π q) ∧ prec s (π q) (π (τ k))) ↔ prec f q (τ k) := by
    intro q
    by_cases hq : A' q
    · unfold prec
      rw [hf q hq, hf _ hk]
      have h1 := (hAA q).mp hq
      constructor
      · rintro ⟨_, h | ⟨e, h⟩⟩
        · exact .inl h
        · refine .inr ⟨e, ?_⟩
          rcases lt_trichotomy q (τ k) with g | g | g
          · exact g
          · rw [g] at h; exact absurd h (lt_irrefl _)
          · rcases hπ _ _ g with g' | ⟨_, g'⟩
            · rw [e] at g'; exact absurd g' (lt_irrefl _)
            · exact absurd (h.trans g') (lt_irrefl _)
      · rintro (h | ⟨e, h⟩)
        · exact ⟨h1, .inl h⟩
        · refine ⟨h1, ?_⟩
          exact hπ _ _ h
    · refine iff_of_false (fun h => hq ((hAA q).mpr h.1)) ?_
      have h1 := hpos _ ((hAA _).mp hk)
      unfold prec
      rw [hf' q hq, hf _ hk]
      rintro (h | ⟨e, _⟩)
      · exact absurd (h1.trans (h.trans hneg)) (lt_irrefl _)
      · rw [← e] at h1; exact absurd (h1.trans hneg) (lt_irrefl _)
  refine Eq.symm ?_
  have : (Finset.univ.filter fun i => A i ∧ prec s i (π (τ k))) = (Finset.univ.filter fun i => prec f i (τ k)).image π := by
    ext i
    obtain ⟨q, rfl⟩ := hb.2 i
    simp only [Finset.mem_filter, Finset.mem_univ, true_and, Finset.mem_image]
    rw [key q]
    constructor
    · intro h; exact ⟨q, h, rfl⟩
    · rintro ⟨q', h, e⟩; rwa [← hb.1 e]
  rw [this, Finset.card_image_of_injective _ hb.1]

/-- A survivor of rank `k` is the `k`-th of the order by final score. -/
theorem of_rank (k : Fin n) (i : Fin n) (hi : A i) (hk : rank s A i = k) : A' (τ k) ∧ π (τ k) = i := by
  obtain ⟨p, rfl⟩ := hb.2 i
  obtain ⟨k', rfl⟩ := hτb.2 p
  have h' := (hAA _).mpr hi
  have := rank_alive s A A' π τ f hb hπ hAA hτb hτ hf hf' hpos k' h'
  have e : k' = k := Fin.ext (this.symm.trans hk)
  subst e
  exact ⟨h', rfl⟩

end select

end Cert.Proof.Nms

end
-- ==== Proof.Nms.Pick.lean ====
/-
  The two selections meet: over rows padded by rows that are never kept, the sum masked to the survivor of a rank is the
  row the sorted suppression puts at that place.
-/
module

public import proofs.«01_k».proof.Proof.Nms.Row
public import proofs.«01_k».proof.Proof.Nms.Abs

@[expose] public section
noncomputable section
namespace Cert.Proof.Nms

open Idealize.ShloMosaic

/-- Rows followed by one value. -/
def padf {α : Type} {n N : ℕ} (z : α) (g : Fin n → α) (i : Fin N) : α := if h : i.val < n then g ⟨i.val, h⟩ else z

theorem neg_one_lt : (-1 : EReal) < 0 := by
  have h : ((-1 : ℝ) : EReal) < ((0 : ℝ) : EReal) := by exact_mod_cast (by norm_num : (-1 : ℝ) < 0)
  simpa using h

section
variable {n N : ℕ} (hN : n ≤ N) (s : Fin n → EReal) (C : Fin n → Fin 4 → EReal) (z : Fin 4 → EReal) (B : Fin N → Prop)

theorem padf_emb {α : Type} (z : α) (g : Fin n → α) (i : Fin n) : padf z g (Fin.castLE hN i) = g i := by
  unfold padf
  rw [dif_pos (show (Fin.castLE hN i).val < n from i.isLt)]
  rfl

theorem prec_emb (i j : Fin n) : prec (padf (-1) s) (Fin.castLE hN i) (Fin.castLE hN j) ↔ prec s i j := by
  unfold prec
  rw [padf_emb, padf_emb]
  rfl

variable (hB : Fix (fun j => 0 ≤ padf (-1) s j) (fun i j => ovK (padf z C i) (padf z C j) ∧ prec (padf (-1) s) i j) B)
include hB

theorem lt_of_alive (j : Fin N) (h : B j) : j.val < n := by
  by_contra hj
  have h0 : 0 ≤ padf (-1) s j := ((hB j).mp h).1
  unfold padf at h0
  rw [dif_neg hj] at h0
  exact absurd neg_one_lt (not_lt.mpr h0)

theorem exists_emb (j : Fin N) (h : B j) : ∃ i : Fin n, Fin.castLE hN i = j := ⟨⟨j.val, lt_of_alive s C z B hB j h⟩, rfl⟩

/-- The suppression over the padded rows, at the rows themselves. -/
theorem restr_fix : Fix (fun j => 0 ≤ s j) (fun i j => ovK (C i) (C j) ∧ prec s i j) (fun i => B (Fin.castLE hN i)) := by
  intro j
  show B (Fin.castLE hN j) ↔ _
  rw [hB]
  simp only [padf_emb]
  refine and_congr_right fun _ => not_congr ⟨?_, ?_⟩
  · rintro ⟨i, hi, ho, hp⟩
    obtain ⟨i, rfl⟩ := exists_emb hN s C z B hB i hi
    rw [padf_emb] at ho
    exact ⟨i, hi, ho, (prec_emb hN s i j).mp hp⟩
  · rintro ⟨i, hi, ho, hp⟩
    exact ⟨Fin.castLE hN i, hi, by rw [padf_emb]; exact ho, (prec_emb hN s i j).mpr hp⟩

theorem rank_emb (j : Fin n) : rank (padf (-1) s) B (Fin.castLE hN j) = rank s (fun i => B (Fin.castLE hN i)) j := by
  classical
  unfold rank
  rw [← Finset.card_image_of_injective _ (Fin.castLE_injective hN)]
  congr 1
  ext i
  simp only [Finset.mem_filter, Finset.mem_univ, true_and, Finset.mem_image]
  constructor
  · rintro ⟨hi, hp⟩
    obtain ⟨i, rfl⟩ := exists_emb hN s C z B hB i hi
    exact ⟨i, ⟨hi, (prec_emb hN s i j).mp hp⟩, rfl⟩
  · rintro ⟨i, ⟨hi, hp⟩, rfl⟩
    exact ⟨hi, (prec_emb hN s i j).mpr hp⟩

open Classical in
/-- The sum masked to the survivor of rank `k` is the row at place `k` of the order by final score, if that row survives. -/
theorem pick_eq (g : Fin N → EReal) (k : Fin n) (π τ : Fin n → Fin n) (f : Fin n → EReal) (A' : Fin n → Prop)
    (hb : Function.Bijective π) (hπ : ∀ i j, i < j → prec s (π i) (π j))
    (hA' : Fix (fun p => 0 ≤ s (π p)) (fun p q => p < q ∧ ovR (C (π p)) (C (π q))) A') (hC : ∀ i, Good (C i)) (hs : ∀ i, 0 ≤ s i → 0 < s i)
    (hτb : Function.Bijective τ) (hτ : ∀ i j, i < j → prec f (τ i) (τ j)) (hf : ∀ p, f p = if A' p then s (π p) else -1) :
    (∑ i, g i * (if B i ∧ rank (padf (-1) s) B i = k.val then 1 else 0)) = g (Fin.castLE hN (π (τ k))) * (if 0 < f (τ k) then 1 else 0) := by
  have hA := restr_fix hN s C z B hB
  have hA'' : Fix (fun p => 0 ≤ s (π p)) (fun p q => p < q ∧ ovK (C (π p)) (C (π q))) A' := by
    intro j
    rw [hA' j]
    simp only [ov_iff (hC _) (hC _)]
  have hAA := alive_iff s (fun j => 0 ≤ s j) (fun i j => ovK (C i) (C j)) _ A' π hb hπ hA hA''
  have hpos : ∀ i, B (Fin.castLE hN i) → 0 < s i := fun i hi => hs i ((hA i).mp hi).1
  have hf1 : ∀ p, A' p → f p = s (π p) := fun p hp => by rw [hf, if_pos hp]
  have hf2 : ∀ p, ¬ A' p → f p = -1 := fun p hp => by rw [hf, if_neg hp]
  have hR := rank_alive s (fun i => B (Fin.castLE hN i)) A' π τ f hb hπ hAA hτb hτ hf1 hf2 hpos k
  have hO := of_rank s (fun i => B (Fin.castLE hN i)) A' π τ f hb hπ hAA hτb hτ hf1 hf2 hpos k
  have hlt : 0 < f (τ k) ↔ A' (τ k) := by
    constructor
    · intro h
      by_contra hn
      rw [hf2 _ hn] at h
      exact absurd neg_one_lt h.le.not_gt
    · intro h
      rw [hf1 _ h]
      exact hpos _ ((hAA _).mp h)
  have hz : ∀ i : Fin N, i ≠ Fin.castLE hN (π (τ k)) → g i * (if B i ∧ rank (padf (-1) s) B i = k.val then 1 else 0) = 0 := by
    intro i hi
    rw [if_neg, mul_zero]
    rintro ⟨h1, h2⟩
    obtain ⟨i, rfl⟩ := exists_emb hN s C z B hB i h1
    rw [rank_emb hN s C z B hB] at h2
    exact hi (congrArg _ (hO i h1 h2).2.symm)
  rw [Finset.sum_eq_single _ (fun i _ hi => hz i hi) (fun h => absurd (Finset.mem_univ _) h)]
  congr 1
  refine if_congr ?_ rfl rfl
  rw [hlt]
  constructor
  · rintro ⟨h1, h2⟩
    exact (hAA _).mpr h1
  · intro h
    exact ⟨(hAA _).mp h, by rw [rank_emb hN s C z B hB]; exact hR h⟩
end

end Cert.Proof.Nms
end
-- ==== Proof.PI.ValH.lean ====
/-
  What the host operations leave in the second kernel's inputs, and what the result buffer reads of its output.
-/
module

public import proofs.«01_k».proof.Proof.PI.Run
public import proofs.«01_k».proof.Proof.PI.ValA
public import proofs.«01_k».proof.Proof.Nms.Pick
public import Idealize.ShloMosaic.Lib.Pointwise
public import Idealize.ShloMosaic.Lib.ValueIdx
public import Idealize.ShloMosaic.Lib.Tactic.CleanTypes
public import Idealize.ShloMosaic.Lib.StableHlo.RunRead

@[expose] public section

noncomputable section

namespace Cert.Proof.PI

open Cert.KernelIdeal Cert.KernelIdeal.Gen
open Idealize.ShloMosaic Idealize.ShloMosaic.StableHlo
open Idealize.ShloMosaic.TcCoe Idealize.ShloMosaic.Tactic
open Cert.Proof.Nms

variable (W : Valuation τ sig (Elt Ideal))

/-- The contents after the host operations between the two kernels. -/
def HB : Valuation τ sig (Elt Ideal) :=
  after hostOps1_10 (after hostOps1_9 (after hostOps1_8 (after hostOps1_7 (after hostOps1_6 (after hostOps1_5 (after hostOps1_4
    (after hostOps1_3 (after hostOps1_2 (after hostOps1_1 (after hostOps1 W))))))))))

theorem pre0_v0 (i : Fin 5000) (j : Fin 81) (e : Fin 4) : (after hostOps0 W (Proc.devRef .tc main_v0) : Vec Ideal S5000x324 .f32) (ix2 i ⟨4 * j.val + e.val, by omega⟩)
    = (W (Proc.devRef .tc main_arg2) : Vec Ideal S5000x81x4 .f32) (ix3 i j e) := by
  after_reads_simp
  try simp -implicitDefEqProofs only [StableHlo.TRef.toBuf, StableHlo.TRef.ofBuf, cast_cast, cast_eq]
  clean_types
  pointwise

theorem post_v17 (k : Fin 100) (c : Fin 6) : (after hostOps2 W (Proc.devRef .tc main_v17) : Vec Ideal S100x6 .f32) (ix2 k c)
    = (W (Proc.devRef .tc main_v14) : Vec Ideal S8x128 .f32) (ix2 ⟨c.val, by omega⟩ ⟨k.val, by omega⟩) := by
  after_reads_simp
  try simp -implicitDefEqProofs only [StableHlo.TRef.toBuf, StableHlo.TRef.ofBuf, cast_cast, cast_eq]
  clean_types
  pointwise

theorem word_zero : FloatOps.sitofp (F := Ideal) .f32 (0#32 : BitVec 32) = 0 := by
  show (((0#32 : BitVec 32).toInt : ℝ) : EReal) = 0
  simp

theorem HB_v2 (i : Fin 5120) (c : Fin 4) : (HB W (Proc.devRef .tc main_v2) : Vec Ideal S5120x4 .f32) (ix2 i c)
    = padf (fun _ => (0 : EReal)) (fun (i : Fin 5000) c => (W (Proc.devRef .tc main_v1_1) : Vec Ideal S5000x4 .f32) (ix2 i c)) i c := by
  unfold HB
  after_reads_simp
  try simp -implicitDefEqProofs only [StableHlo.TRef.toBuf, StableHlo.TRef.ofBuf, cast_cast, cast_eq]
  clean_types
  pointwise
  unfold padf
  by_cases h : i.val < 5000
  · rw [dif_pos h, dif_pos h]
  · rw [dif_neg h, dif_neg h]; exact word_zero

theorem HB_v12 (i : Fin 5120) (c : Fin 4) : (HB W (Proc.devRef .tc main_v12) : Vec Ideal S4x5120 .f32) (ix2 c i)
    = padf (fun _ => (0 : EReal)) (fun (i : Fin 5000) c => (W (Proc.devRef .tc main_v1_1) : Vec Ideal S5000x4 .f32) (ix2 i c)) i c := by
  unfold HB
  after_reads_simp
  try simp -implicitDefEqProofs only [StableHlo.TRef.toBuf, StableHlo.TRef.ofBuf, cast_cast, cast_eq]
  clean_types
  pointwise
  unfold padf
  by_cases h : i.val < 5000
  · rw [dif_pos h, dif_pos h]
  · rw [dif_neg h, dif_neg h]; exact word_zero

theorem HB_v3 (i : Fin 5120) : (HB W (Proc.devRef .tc main_v3) : Vec Ideal S5120x1 .f32) (ix2 i 0)
    = padf (-1 : EReal) (fun (i : Fin 5000) => (W (Proc.devRef .tc main_v1_4) : Vec Ideal S5000x1 .f32) (ix2 i 0)) i := by
  unfold HB
  after_reads_simp
  try simp -implicitDefEqProofs only [StableHlo.TRef.toBuf, StableHlo.TRef.ofBuf, cast_cast, cast_eq]
  clean_types
  pointwise
  unfold padf
  by_cases h : i.val < 5000
  · rw [dif_pos h, dif_pos h]
  · rw [dif_neg h, dif_neg h]; exact lit_neg_one

theorem HB_v13 (i : Fin 5120) : (HB W (Proc.devRef .tc main_v13) : Vec Ideal S1x5120 .f32) (ix2 0 i)
    = padf (-1 : EReal) (fun (i : Fin 5000) => (W (Proc.devRef .tc main_v1_4) : Vec Ideal S5000x1 .f32) (ix2 i 0)) i := by
  unfold HB
  after_reads_simp
  try simp -implicitDefEqProofs only [StableHlo.TRef.toBuf, StableHlo.TRef.ofBuf, cast_cast, cast_eq]
  clean_types
  pointwise
  unfold padf
  by_cases h : i.val < 5000
  · rw [dif_pos h, dif_pos h]
  · rw [dif_neg h, dif_neg h]; exact lit_neg_one

/-- Which of the packed rows an index below six is in. -/
theorem pack_cases (c : Fin 6) (a b : ℕ) (hab : a < b) (x0 : c.val < 4 → EReal) (x1 : c.val - 4 < 1 → EReal) (x2 : c.val - 4 - 1 < 1 → EReal)
    (z w y1 y2 : EReal) (D : Decidable (a < b)) (h1 : ∀ h, x1 h = y1) (h2 : ∀ h, x2 h = y2) :
    (if h : c.val < 4 then (if h' : a < b ∧ c.val < 4 then x0 h'.2 else z)
      else if h : c.val - 4 < 1 then (if h' : a < b ∧ c.val - 4 < 1 then x1 h'.2 else z)
      else if h : c.val - 4 - 1 < 1 then (if h' : a < b ∧ c.val - 4 - 1 < 1 then x2 h'.2 else z) else w)
    = if h : c.val < 4 then x0 h else if c.val = 4 then y1 else y2 := by
  by_cases h : c.val < 4
  · rw [dif_pos h, dif_pos h, dif_pos ⟨hab, h⟩]
  rw [dif_neg h, dif_neg h]
  by_cases h4 : c.val = 4
  · have e1 : c.val - 4 < 1 := by omega
    rw [dif_pos e1, dif_pos ⟨hab, e1⟩, if_pos h4, h1]
  · have e1 : ¬ c.val - 4 < 1 := by omega
    have e2 : c.val - 4 - 1 < 1 := by omega
    rw [dif_neg e1, dif_pos e2, dif_pos ⟨hab, e2⟩, if_neg h4, h2]

theorem HB_v11 (i : Fin 5000) (c : Fin 6) : (HB W (Proc.devRef .tc main_v11) : Vec Ideal S8x5120 .f32) (ix2 ⟨c.val, by omega⟩ (Fin.castLE (by omega) i))
    = if h : c.val < 4 then (W (Proc.devRef .tc main_v1_0) : Vec Ideal S5000x4 .f32) (ix2 i ⟨c.val, h⟩)
      else if c.val = 4 then (W (Proc.devRef .tc main_v1_2) : Vec Ideal S5000x1 .f32) (ix2 i 0)
      else (W (Proc.devRef .tc main_v1_3) : Vec Ideal S5000x1 .f32) (ix2 i 0) := by
  unfold HB
  after_reads_simp
  try simp -implicitDefEqProofs only [StableHlo.TRef.toBuf, StableHlo.TRef.ofBuf, cast_cast, cast_eq]
  clean_types
  pointwise
  after_reads_simp
  try simp -implicitDefEqProofs only [StableHlo.TRef.toBuf, StableHlo.TRef.ofBuf, cast_cast, cast_eq]
  clean_types
  pointwise
  exact pack_cases c _ _ i.isLt (fun h => (W (Proc.devRef .tc main_v1_0) : Vec Ideal S5000x4 .f32) (ix2 i ⟨c.val, h⟩))
    (fun h => (W (Proc.devRef .tc main_v1_2) : Vec Ideal S5000x1 .f32) (ix2 i ⟨c.val - 4, h⟩))
    (fun h => (W (Proc.devRef .tc main_v1_3) : Vec Ideal S5000x1 .f32) (ix2 i ⟨c.val - 4 - 1, h⟩)) _ _ _ _ _
    (fun h => congrArg (fun q : Fin 1 => (W (Proc.devRef .tc main_v1_2) : Vec Ideal S5000x1 .f32) (ix2 i q)) (Fin.ext (by omega)))
    (fun h => congrArg (fun q : Fin 1 => (W (Proc.devRef .tc main_v1_3) : Vec Ideal S5000x1 .f32) (ix2 i q)) (Fin.ext (by omega)))

end Cert.Proof.PI
end
-- ==== Proof.PI.ValB.lean ====
/-
  The second kernel's value at the exact instance: the two 0/1 matrices at an index, the survivors the loop leaves as the
  fixpoint of suppression, the places as ranks, the result as a masked sum.
-/
module

public import proofs.«01_k».proof.Proof.PI.CommonB
public import proofs.«01_k».proof.Proof.Nms.Abs
public import proofs.«01_k».proof.Proof.Nms.Spec
public import Idealize.ShloMosaic.Lib.Pointwise
public import Idealize.ShloMosaic.Lib.ValueIdx
public import Idealize.ShloMosaic.Lib.IntMxu
public import Idealize.ShloMosaic.PureOps.Ideal

@[expose] public section

noncomputable section

namespace Cert.Proof.PI

open Cert.KernelIdeal Cert.KernelIdeal.Gen
open Idealize.ShloMosaic
open Cert.Proof.Nms

variable (b0 : Vec Ideal S5120x4 .f32) (b1 : Vec Ideal S5120x1 .f32) (b2 : Vec Ideal S4x5120 .f32) (b3 : Vec Ideal S1x5120 .f32)
  (b4 : Vec Ideal S8x5120 .f32)

/-! ### The reads -/

theorem rowB_apply (r : Fin 4) (h : ∀ a, (![r.val, 0] : Fin 2 → ℕ) a + S1x5120.size a ≤ S4x5120.size a) (j : Fin 5120) :
    rowB b2 ![r.val, 0] h (ix2 0 j) = b2 (ix2 r j) := by
  unfold rowB
  show b2 _ = b2 _
  congr 1
  funext a; apply Fin.ext
  refine (ValueKit.rect_emb_unit_val (s := S4x5120) _ _ h _ a).trans ?_
  fin_cases a <;> simp <;> rfl

theorem w5_apply (j : Fin 5120) : w5 b2 (ix2 0 j) = b2 (ix2 0 j) := rowB_apply b2 0 _ j
theorem w7_apply (j : Fin 5120) : w7 b2 (ix2 0 j) = b2 (ix2 1 j) := rowB_apply b2 1 _ j
theorem w9_apply (j : Fin 5120) : w9 b2 (ix2 0 j) = b2 (ix2 2 j) := rowB_apply b2 2 _ j
theorem w11_apply (j : Fin 5120) : w11 b2 (ix2 0 j) = b2 (ix2 3 j) := rowB_apply b2 3 _ j

theorem colB_apply (i : Fin 5120) (c : Fin 4) (o : Fin 2 → ℕ) (ho : o = ![128 * (tripOf1 i).val, c.val])
    (h : ∀ a, o a + S128x1.size a ≤ S5120x4.size a) : colB b0 o h (ix2 (rowOf i) 0) = b0 (ix2 i c) := by
  unfold colB
  show b0 _ = b0 _
  congr 1
  funext a; apply Fin.ext
  refine (ValueKit.rect_emb_unit_val (s := S5120x4) _ _ h _ a).trans ?_
  subst ho
  match a with
  | ⟨0, _⟩ => show 128 * (i.val / 128) + i.val % 128 = i.val; omega
  | ⟨1, _⟩ => show c.val + 0 = c.val; rfl

theorem scoB_apply (i : Fin 5120) (o : Fin 2 → ℕ) (ho : o = ![128 * (tripOf1 i).val, 0])
    (h : ∀ a, o a + S128x1.size a ≤ S5120x1.size a) : scoB b1 o h (ix2 (rowOf i) 0) = b1 (ix2 i 0) := by
  unfold scoB
  show b1 _ = b1 _
  congr 1
  funext a; apply Fin.ext
  refine (ValueKit.rect_emb_unit_val (s := S5120x1) _ _ h _ a).trans ?_
  subst ho
  match a with
  | ⟨0, _⟩ => show 128 * (i.val / 128) + i.val % 128 = i.val; omega
  | ⟨1, _⟩ => rfl

theorem rkB_apply (t : Vec Ideal S1x5120 .f32) (i : Fin 5120) (o : Fin 2 → ℕ) (ho : o = ![0, 128 * (tripOf2 i).val])
    (h : ∀ a, o a + S1x128.size a ≤ S1x5120.size a) : rkB t o h (ix2 0 (rowOf i)) = t (ix2 0 i) := by
  unfold rkB
  show t _ = t _
  congr 1
  funext a; apply Fin.ext
  refine (ValueKit.rect_emb_unit_val (s := S1x5120) _ _ h _ a).trans ?_
  subst ho
  match a with
  | ⟨0, _⟩ => rfl
  | ⟨1, _⟩ => show 128 * (i.val / 128) + i.val % 128 = i.val; omega

/-! ### The two matrices -/

theorem toInt_word {n : ℕ} (h : n < 5120) : (BitVec.ofNat 32 n).toInt = n := by
  rw [BitVec.toInt_eq_toNat_of_lt (by rw [BitVec.toNat_ofNat]; omega), BitVec.toNat_ofNat]
  omega

theorem word_lt (i j : Fin 5120) : IntOp.cmpi CmpIPredicate.slt
    (IntOp.addi (Scalar.muli (Scf.iv 0#32 1#32 ↑(tripOf1 i)) 128#32) (BitVec.ofNat 32 ↑(rowOf i))) (BitVec.ofNat 32 ↑j) = BitVec.ofBool (decide (i < j)) := by
  have h1 : IntOp.addi (Scalar.muli (Scf.iv 0#32 1#32 ↑(tripOf1 i)) 128#32) (BitVec.ofNat 32 ↑(rowOf i)) = BitVec.ofNat 32 i.val := by
    have e : (128 * (i.val / 128) + i.val % 128) = i.val := by omega
    have hi := i.isLt
    show (Scf.iv 0#32 1#32 (i.val / 128)) * 128#32 + BitVec.ofNat 32 (i.val % 128) = _
    unfold Scf.iv
    apply BitVec.eq_of_toNat_eq
    simp only [BitVec.toNat_add, BitVec.toNat_mul, BitVec.toNat_ofNat]
    omega
  rw [h1]
  show BitVec.ofBool (BitVec.slt _ _) = _
  congr 1
  have hi := i.isLt
  have hj := j.isLt
  rw [BitVec.slt_eq_decide]
  apply decide_eq_decide.mpr
  rw [toInt_word hi, toInt_word hj, Fin.lt_def]
  omega

section
variable (C : Fin 5120 → Fin 4 → EReal) (s : Fin 5120 → EReal)
  (h0 : ∀ i c, b0 (ix2 i c) = C i c) (h1 : ∀ i, b1 (ix2 i 0) = s i) (h2 : ∀ c j, b2 (ix2 c j) = C j c) (h3 : ∀ j, b3 (ix2 0 j) = s j)

theorem bit_or (p q : Prop) [Decidable p] [Decidable q] : IntOp.ori (BitVec.ofBool (decide p)) (BitVec.ofBool (decide q)) = BitVec.ofBool (decide (p ∨ q)) := by
  by_cases p <;> by_cases q <;> simp_all [IntOp.ori]
theorem bit_and (p q : Prop) [Decidable p] [Decidable q] : IntOp.andi (BitVec.ofBool (decide p)) (BitVec.ofBool (decide q)) = BitVec.ofBool (decide (p ∧ q)) := by
  by_cases p <;> by_cases q <;> simp_all [IntOp.andi]
theorem bit_sel (p : Prop) [Decidable p] : BitVec.setWidth 8 (Scalar.select (BitVec.ofBool (decide p)) 1#32 0#32) = if p then 1#8 else 0#8 := by
  by_cases p <;> simp_all [Scalar.select]

open Classical in
include h1 h3 in
theorem matP_apply (i j : Fin 5120) : matP b1 b3 (ix2 i j) = if prec s i j then 1#8 else 0#8 := by
  show chP b1 b3 (tripOf1 i) (ix2 (rowOf i) j) = _
  unfold chP k1_pay19 k1_pay17 k1_pay5 k1_pay6 k1_pay8 k1_pay9 k1_pay10 k1_pay5
  pointwise
  rw [scoB_apply b1 i _ (k1_off5_eq _), h1, h3, word_lt, bit_and, bit_or, bit_sel]
  unfold prec
  congr

open Classical in
include h0 h2 in
theorem ovl_apply (i : Fin 5120) (j : Fin 5120) : ovl b0 b2 (tripOf1 i) (ix2 (rowOf i) j) = BitVec.ofBool (decide (ovK (C i) (C j))) := by
  unfold ovl k1_pay7 k1_pay12 k1_pay13 k1_pay14 k1_pay15 k1_pay16 k1_pay14 k1_pay15 k1_pay13 k1_pay12
  pointwise
  rw [w5_apply, w7_apply, w9_apply, w11_apply, colB_apply b0 i 0 _ (k1_off1_eq _), colB_apply b0 i 1 _ (k1_off2_eq _), colB_apply b0 i 2 _ (k1_off3_eq _), colB_apply b0 i 3 _ (k1_off4_eq _)]
  simp only [h0, h2]
  congr

open Classical in
include h0 h1 h2 h3 in
theorem matM_apply (i j : Fin 5120) : matM b0 b1 b2 b3 (ix2 i j) = if ovK (C i) (C j) ∧ prec s i j then 1#8 else 0#8 := by
  show chM b0 b1 b2 b3 (tripOf1 i) (ix2 (rowOf i) j) = _
  unfold chM k1_pay18 k1_pay17 k1_pay5 k1_pay6 k1_pay8 k1_pay9 k1_pay10 k1_pay5
  pointwise
  rw [ovl_apply b0 b2 C h0 h2, scoB_apply b1 i _ (k1_off5_eq _), h1, h3, word_lt, bit_and, bit_or, bit_and, bit_sel]
  unfold prec
  congr

end

/-! ### The 8-bit dots count -/

/-- The contraction's index of a coordinate. -/
abbrev ctr (k : Fin 5120) : dot_S1x5120_S5120x5120_S1x5120_1_0_0_1_n_n.contr.Idx :=
  DotDims.contrIdx₁ dot_S1x5120_S5120x5120_S1x5120_1_0_0_1_n_n (a := (1 : Fin 2)) rfl (K := 5120) rfl k

theorem sum_ctr {M : Type} [AddCommMonoid M] (f : dot_S1x5120_S5120x5120_S1x5120_1_0_0_1_n_n.contr.Idx → M) : ∑ kk, f kk = ∑ k : Fin 5120, f (ctr k) :=
  DotDims.sum_contr₁ dot_S1x5120_S5120x5120_S1x5120_1_0_0_1_n_n (a := (1 : Fin 2)) rfl (K := 5120) rfl f

open Classical in
/-- A 0/1 row by a 0/1 matrix counts. -/
theorem dot_count (a : IVec S1x5120 8) (M : IVec S5120x5120 8) (p : Fin 5120 → Prop) (q : Fin 5120 → Fin 5120 → Prop)
    (ha : ∀ i, a (ix2 0 i) = if p i then 1#8 else 0#8) (hM : ∀ i j, M (ix2 i j) = if q i j then 1#8 else 0#8) (j : Fin 5120) :
    matmulI8 IntMxuNumerics.v7x dot_S1x5120_S5120x5120_S1x5120_1_0_0_1_n_n a M (constantI S1x5120 32 0#32) (ix2 0 j)
      = BitVec.ofNat 32 (Finset.univ.filter fun i => p i ∧ q i j).card := by
  have hl : ∀ k, a (dot_S1x5120_S5120x5120_S1x5120_1_0_0_1_n_n.lhsIdx (ix2 0 j) (ctr k)) = if p k then 1#8 else 0#8 := by
    intro k
    rw [← ha k]; congr 1; funext x; fin_cases x <;> rfl
  have hr : ∀ k, M (dot_S1x5120_S5120x5120_S1x5120_1_0_0_1_n_n.rhsIdx (ix2 0 j) (ctr k)) = if q k j then 1#8 else 0#8 := by
    intro k
    rw [← hM k]; congr 1; funext x; fin_cases x <;> rfl
  have hd : dotI8 dot_S1x5120_S5120x5120_S1x5120_1_0_0_1_n_n a M (ix2 0 j) = ((Finset.univ.filter fun i => p i ∧ q i j).card : ℤ) := by
    unfold dotI8
    rw [sum_ctr, Finset.card_filter]
    push_cast
    refine Finset.sum_congr rfl fun k _ => ?_
    rw [hl, hr]
    by_cases hp : p k <;> by_cases hq : q k j <;> simp [hp, hq]
  have hA : absDotI8 dot_S1x5120_S5120x5120_S1x5120_1_0_0_1_n_n a M (ix2 0 j) = (Finset.univ.filter fun i => p i ∧ q i j).card := by
    unfold absDotI8
    rw [sum_ctr, Finset.card_filter]
    refine Finset.sum_congr rfl fun k _ => ?_
    rw [hl, hr]
    by_cases hp : p k <;> by_cases hq : q k j <;> simp [hp, hq]
  rw [matmulI8_exact _ _ _ _ _ _ rfl, hd]
  · rfl
  · rw [hA]
    refine (Finset.card_le_univ _).trans ?_
    rw [Fintype.card_fin]; decide

end Cert.Proof.PI

end
-- ==== Proof.PI.ValB2.lean ====
/-
  The second kernel's value at the exact instance, continued: the survivors the loop leaves are the fixpoint of
  suppression; the places are the survivors' ranks; the result is a masked sum.
-/
module

public import proofs.«01_k».proof.Proof.PI.ValB
public import proofs.«01_k».proof.Proof.Nms.Lit

@[expose] public section

noncomputable section

namespace Cert.Proof.PI

open Cert.KernelIdeal Cert.KernelIdeal.Gen
open Idealize.ShloMosaic
open Cert.Proof.Nms

/-- The row of 0/1 that tells which scores are not negative. -/
def ind (t : Vec Ideal S1x5120 .f32) : Vec Ideal S1x5120 .i8 := fun i => if 0 ≤ t i then 1#8 else 0#8

theorem ext_row {α : Type} {f g : S1x5120.Idx → α} (h : ∀ j, f (ix2 0 j) = g (ix2 0 j)) : f = g := by
  funext i
  rw [eq_ix2 i]
  have e : i 0 = (0 : Fin 1) := Fin.ext (by have h := (i 0).isLt; change (i 0).val < 1 at h; show (i 0).val = 0; omega)
  rw [e]; exact h _

theorem ext_row_iff {α : Type} {f g : S1x5120.Idx → α} (h : f ≠ g) : ∃ j : Fin 5120, f (ix2 0 j) ≠ g (ix2 0 j) := by
  by_contra hc
  push Not at hc
  exact h (ext_row hc)

variable (b0 : Vec Ideal S5120x4 .f32) (b1 : Vec Ideal S5120x1 .f32) (b2 : Vec Ideal S4x5120 .f32) (b3 : Vec Ideal S1x5120 .f32)
  (b4 : Vec Ideal S8x5120 .f32)

theorem pay3_eq (v3 : IVec S1x5120 1) (v1 : FVec Ideal S1x5120 .f32) (a : Vec Ideal S1x5120 .i8) (M : Vec Ideal S5120x5120 .i8) :
    k1_pay3 v3 v1 a M = k1_pay1 v3 v1 a M := by
  refine ext_row fun j => ?_
  unfold k1_pay3
  pointwise

theorem pay4_eq (v3 : IVec S1x5120 1) (v1 : FVec Ideal S1x5120 .f32) (a : Vec Ideal S1x5120 .i8) (M : Vec Ideal S5120x5120 .i8) :
    k1_pay4 v3 v1 a M = ind (k1_pay1 v3 v1 a M) := by
  refine ext_row fun j => ?_
  unfold k1_pay4 ind
  pointwise
  split <;> rfl

theorem pay10_eq : k1_pay10 b3 = b3 := by
  refine ext_row fun j => ?_
  unfold k1_pay10
  pointwise

theorem pay20_eq : k1_pay20 b3 = b3 := by
  refine ext_row fun j => ?_
  unfold k1_pay20 k1_pay10
  pointwise

theorem pay21_eq : k1_pay21 b3 = ind b3 := by
  refine ext_row fun j => ?_
  unfold k1_pay21 k1_pay10 ind
  pointwise
  split <;> rfl

theorem pay2_eq (v3 : IVec S1x5120 1) (v1 : FVec Ideal S1x5120 .f32) (t : Vec Ideal S1x5120 .f32) (a : Vec Ideal S1x5120 .i8) (M : Vec Ideal S5120x5120 .i8)
    (h : ¬ Scalar.cmpf .ogt (k1_pay2 v3 v1 t a M) (Scalar.ofBits .f32 0x00000000#32) = 1#1) : k1_pay1 v3 v1 a M = t := by
  by_contra hc
  obtain ⟨j, hj⟩ := ext_row_iff hc
  apply h
  unfold k1_pay2
  pointwise
  have hp : (0 : EReal) < Finset.fold max (Ideal.ofBits .f32 0xFF800000#32)
      (fun x : Fin 1 × Fin 5120 => if k1_pay1 v3 v1 a M (ix2 0 x.2) ≠ t (ix2 0 x.2) then (1 : EReal) else 0) Finset.univ := by
    rw [Finset.lt_fold_max]
    exact .inr ⟨(0, j), Finset.mem_univ _, by rw [if_pos hj]; exact zero_lt_one⟩
  exact congrArg BitVec.ofBool (decide_eq_true hp)

/-- One pass. -/
def passB (v3 : IVec S1x5120 1) (v1 : FVec Ideal S1x5120 .f32) (M : Vec Ideal S5120x5120 .i8) (t : Vec Ideal S1x5120 .f32) : Vec Ideal S1x5120 .f32 :=
  k1_pay1 v3 v1 (ind t) M

theorem wh_eq (v3 : IVec S1x5120 1) (v1 : FVec Ideal S1x5120 .f32) (M : Vec Ideal S5120x5120 .i8) (n : ℕ) :
    ∀ (t : Vec Ideal S1x5120 .f32) (fl : BitVec 1), (fl ≠ 1#1 → passB v3 v1 M t = t) → (wh v3 v1 M n t (ind t) fl).1 = (passB v3 v1 M)^[n] t := by
  induction n with
  | zero => intro t fl _; rfl
  | succ n ih =>
    intro t fl hfl
    rw [wh]
    split
    · rw [pay3_eq, pay4_eq, Function.iterate_succ_apply]
      refine ih _ _ fun h => ?_
      show passB v3 v1 M (k1_pay1 v3 v1 (ind t) M) = _
      have h' := pay2_eq _ _ _ _ _ h
      show passB v3 v1 M (k1_pay1 v3 v1 (ind t) M) = k1_pay1 v3 v1 (ind t) M
      rw [h']; exact h'
    · rename_i h
      exact (Function.iterate_fixed (hfl h) _).symm

theorem pay11_apply (j : Fin 5120) : k1_pay11 b3 (ix2 0 j) = if 0 ≤ b3 (ix2 0 j) then 1#1 else 0#1 := by
  unfold k1_pay11 k1_pay10
  pointwise
  by_cases h : 0 ≤ b3 (ix2 0 j)
  · rw [if_pos h, decide_eq_true h]; rfl
  · rw [if_neg h, decide_eq_false h]; rfl

variable (C : Fin 5120 → Fin 4 → EReal) (s : Fin 5120 → EReal)
  (h0 : ∀ i c, b0 (ix2 i c) = C i c) (h1 : ∀ i, b1 (ix2 i 0) = s i) (h2 : ∀ c j, b2 (ix2 c j) = C j c) (h3 : ∀ j, b3 (ix2 0 j) = s j)

theorem word_beq {a b : ℕ} (ha : a < 2 ^ 32) (hb : b < 2 ^ 32) : IntOp.cmpi CmpIPredicate.eq (BitVec.ofNat 32 a) (BitVec.ofNat 32 b) = BitVec.ofBool (decide (a = b)) := by
  show BitVec.ofBool (_ == _) = _
  congr 1
  by_cases h : a = b
  · subst h; simp
  · rw [decide_eq_false h]
    refine beq_eq_false_iff_ne.mpr fun hc => h ?_
    have h2 := congrArg BitVec.toNat hc
    rwa [BitVec.toNat_ofNat, BitVec.toNat_ofNat, Nat.mod_eq_of_lt ha, Nat.mod_eq_of_lt hb] at h2

theorem word_real {n : ℕ} (h : n ≤ 5120) : (FloatOps.sitofp .f32 (BitVec.ofNat 32 n) : Ideal .f32) = ((n : ℝ) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]
  rfl

theorem card_zero (P : Fin 5120 → Prop) (D : DecidablePred P) : BitVec.ofNat 32 (Finset.univ.filter P).card = 0#32 ↔ ¬ ∃ i, P i := by
  have hlt : (Finset.univ.filter P).card ≤ 5120 := by
    refine (Finset.card_le_univ _).trans ?_
    rw [Fintype.card_fin]
  constructor
  · intro h
    have h2 := congrArg BitVec.toNat h
    rw [BitVec.toNat_ofNat, Nat.mod_eq_of_lt (by omega)] at h2
    have h3 := Finset.card_eq_zero.mp h2
    rintro ⟨i, hi⟩
    have : i ∈ Finset.univ.filter P := by simpa using hi
    rw [h3] at this
    exact absurd this (Finset.notMem_empty _)
  · intro h
    have : Finset.univ.filter P = ∅ := Finset.filter_eq_empty_iff.mpr fun i _ hi => h ⟨i, hi⟩
    rw [this]; rfl

theorem zero_sel (a e : Prop) [Decidable a] (D : Decidable (a ∧ e)) (w : BitVec 32) (hw : w = 0#32 ↔ e) (x y : EReal) :
    Scalar.select (IntOp.andi (if a then 1#1 else 0#1) (IntOp.cmpi CmpIPredicate.eq w 0#32)) x y = if a ∧ e then x else y := by
  by_cases hx : w = 0#32
  · subst hx
    have he := hw.mp rfl
    by_cases h : a
    · rw [if_pos h, if_pos ⟨h, he⟩]; rfl
    · rw [if_neg h, if_neg (fun h' => h h'.1)]; rfl
  · have : IntOp.cmpi CmpIPredicate.eq w 0#32 = 0#1 := by
      show BitVec.ofBool (_ == _) = _
      rw [beq_eq_false_iff_ne.mpr hx]; rfl
    rw [this]
    by_cases h : a
    · rw [if_pos h, if_neg (fun h' : a ∧ e => hx (hw.mpr h'.2))]; rfl
    · rw [if_neg h, if_neg (fun h' : a ∧ e => h h'.1)]; rfl

open Classical in
include h3 in
theorem pass_apply (M : Vec Ideal S5120x5120 .i8) (q : Fin 5120 → Fin 5120 → Prop) (hM : ∀ i j, M (ix2 i j) = if q i j then 1#8 else 0#8)
    (t : Vec Ideal S1x5120 .f32) (j : Fin 5120) :
    passB (k1_pay11 b3) (k1_pay10 b3) M t (ix2 0 j) = if step (fun j => 0 ≤ s j) q (fun i => 0 ≤ t (ix2 0 i)) j then s j else -1 := by
  unfold passB k1_pay1
  pointwise
  rw [dot_count (ind t) M (fun i => 0 ≤ t (ix2 0 i)) q (fun i => by unfold ind; congr) hM, pay11_apply, pay10_eq, h3, lit_neg_one]
  exact zero_sel _ _ _ _ (card_zero _ _) _ _

theorem neg_one_lt : (-1 : EReal) < 0 := by
  have h : ((-1 : ℝ) : EReal) < ((0 : ℝ) : EReal) := by exact_mod_cast (by norm_num : (-1 : ℝ) < 0)
  simpa using h

/-- The suppression relation among scored boxes. -/
def supp (i j : Fin 5120) : Prop := ovK (C i) (C j) ∧ prec s i j

/-- The boxes the loop leaves. -/
def aliveB (i : Fin 5120) : Prop := 0 ≤ (whEnd b0 b1 b2 b3).1 (ix2 0 i)

open Classical in
include h0 h1 h2 h3 in
theorem whEnd_spec : Fix (fun j => 0 ≤ s j) (supp C s) (aliveB b0 b1 b2 b3)
    ∧ ∀ j, (whEnd b0 b1 b2 b3).1 (ix2 0 j) = if aliveB b0 b1 b2 b3 j then s j else -1 := by
  have hM := matM_apply b0 b1 b2 b3 C s h0 h1 h2 h3
  have hG := fun t => pass_apply b3 s h3 (matM b0 b1 b2 b3) (supp C s) (fun i j => by rw [hM]; unfold supp; congr) t
  set G := passB (k1_pay11 b3) (k1_pay10 b3) (matM b0 b1 b2 b3) with hGd
  have hE : (whEnd b0 b1 b2 b3).1 = G^[5122] b3 := by
    unfold whEnd
    rw [pay20_eq, pay21_eq]
    exact wh_eq _ _ _ _ _ _ (fun h => absurd rfl h)
  have hS : ∀ t j, (0 ≤ G t (ix2 0 j)) ↔ step (fun j => 0 ≤ s j) (supp C s) (fun i => 0 ≤ t (ix2 0 i)) j := by
    intro t j
    rw [hG]
    split
    · rename_i h; exact ⟨fun _ => h, fun _ => h.1⟩
    · rename_i h; exact ⟨fun h' => absurd h' (not_le.mpr neg_one_lt), fun h' => absurd h' h⟩
  have hset := step_settled (keep := fun j => 0 ≤ s j) (m := supp C s) (rk s) (fun i j h => rk_lt s h.2)
    (fun n j => 0 ≤ (G^[n] b3) (ix2 0 j)) (fun n j => by
      show (0 ≤ (G^[n + 1] b3) (ix2 0 j)) ↔ _
      rw [Function.iterate_succ_apply']; exact hS _ _) 5121
  have hfin : ∀ j, (0 ≤ (G^[5121] b3) (ix2 0 j)) ↔ 0 ≤ (G^[5122] b3) (ix2 0 j) := fun j => hset j ((rk_lt_card s j).trans (by decide))
  have hfun : (fun j : Fin 5120 => 0 ≤ (G^[5121] b3) (ix2 0 j)) = aliveB b0 b1 b2 b3 := by
    funext j
    exact propext ((hfin j).trans (by unfold aliveB; rw [hE]))
  have hal : ∀ j, aliveB b0 b1 b2 b3 j ↔ step (fun j => 0 ≤ s j) (supp C s) (aliveB b0 b1 b2 b3) j := by
    intro j
    rw [← hfun]
    show (0 ≤ (G^[5121] b3) (ix2 0 j)) ↔ _
    rw [hfin j, Function.iterate_succ_apply', hS]
  refine ⟨fun j => hal j, fun j => ?_⟩
  rw [hE, Function.iterate_succ_apply', hG]
  have := hal j
  rw [hfun, ← propext this]

variable (hs : ∀ j, 0 ≤ s j → 0 < s j)

open Classical in
include h0 h1 h2 h3 hs in
theorem rankRow_apply (j : Fin 5120) : rankRow b0 b1 b2 b3 (ix2 0 j)
    = if aliveB b0 b1 b2 b3 j then ((rank s (aliveB b0 b1 b2 b3) j : ℝ) : EReal) else ((5120 : ℝ) : EReal) := by
  obtain ⟨hF, hT⟩ := whEnd_spec b0 b1 b2 b3 C s h0 h1 h2 h3
  have hpos : ∀ i, 0 < (whEnd b0 b1 b2 b3).1 (ix2 0 i) ↔ aliveB b0 b1 b2 b3 i := by
    intro i
    rw [hT]
    split
    · rename_i h; exact ⟨fun _ => h, fun _ => hs _ ((hF i).mp h).1⟩
    · rename_i h; exact ⟨fun h' => absurd h' (not_lt.mpr neg_one_lt.le), fun h' => absurd h' h⟩
  unfold rankRow k1_pay22
  pointwise
  rw [dot_count _ (matP b1 b3) (aliveB b0 b1 b2 b3) (prec s) _ (matP_apply b1 b3 s h1 h3), lit_5120]
  · refine if_congr (hpos j) ?_ rfl
    refine word_real ((Finset.card_le_univ _).trans ?_)
    rw [Fintype.card_fin]
  · intro i
    pointwise
    by_cases h : aliveB b0 b1 b2 b3 i
    · rw [if_pos ((hpos i).mpr h), if_pos h]; rfl
    · rw [if_neg (fun h' => h ((hpos i).mp h')), if_neg h]; rfl

theorem pay23_apply (v : Vec Ideal S1x128 .f32) (r : Fin 128) : k1_pay23 v (ix2 r 0) = v (ix2 0 r) := by
  unfold k1_pay23
  pointwise
  rw [Finset.sum_eq_single r]
  · simp [Scalar.select, IntOp.cmpi]
  · intro x _ hx
    rw [word_beq (by omega) (by omega), decide_eq_false (fun h => hx (Fin.ext h.symm))]
    rfl
  · intro h; exact absurd (Finset.mem_univ _) h

theorem colOf_apply (t : Vec Ideal S1x5120 .f32) (i : Fin 5120) : colOf t (ix2 i 0) = t (ix2 0 i) := by
  show k1_pay23 (rkB t (k1_off7 (tripOf2 i)) (k1_off7_inb (tripOf2 i))) (ix2 (rowOf i) 0) = _
  rw [pay23_apply, rkB_apply t i _ (k1_off7_eq _)]

open Classical in
include h0 h1 h2 h3 hs in
/-- The result at an index: the packed row summed over the survivors of that place. -/
theorem outB_apply (r : Fin 8) (k : Fin 128) : outB b0 b1 b2 b3 b4 (ix2 r k)
    = ∑ i, b4 (ix2 r i) * (if aliveB b0 b1 b2 b3 i ∧ rank s (aliveB b0 b1 b2 b3) i = k then 1 else 0) := by
  unfold outB k1_pay24
  pointwise
  refine Finset.sum_congr rfl fun i _ => ?_
  rw [colOf_apply, rankRow_apply b0 b1 b2 b3 C s h0 h1 h2 h3 hs]
  congr 1
  rw [word_real (by omega)]
  refine if_congr ?_ rfl rfl
  by_cases h : aliveB b0 b1 b2 b3 i
  · rw [if_pos h]
    simp only [h, true_and]
    refine ⟨fun e => ?_, fun e => by rw [e]⟩
    have e2 : ((rank s (aliveB b0 b1 b2 b3) i : ℕ) : ℝ) = ((k.val : ℕ) : ℝ) := EReal.coe_injective e
    exact_mod_cast e2
  · rw [if_neg h]
    simp only [h, false_and, iff_false]
    intro hc
    have : (5120 : ℝ) = (k.val : ℝ) := EReal.coe_injective hc
    have h2 : (5120 : ℕ) = k.val := by exact_mod_cast this
    omega

end Cert.Proof.PI

end
-- ==== Proof.PI.Out.lean ====
/-
  The kernel program's result, at a row and a column, of its three arguments.
-/
module

public import proofs.«01_k».proof.Proof.PI.ValH
public import proofs.«01_k».proof.Proof.PI.ValB2

@[expose] public section

noncomputable section

namespace Cert.Proof.PI

open Cert.KernelIdeal Cert.KernelIdeal.Gen
open Idealize.ShloMosaic Idealize.ShloMosaic.StableHlo
open Idealize.ShloMosaic.TcCoe Idealize.ShloMosaic.Tactic
open Cert.Proof.Nms

variable (m : (ℓ : Loc nD τ sig) → Buf (Elt Ideal) ℓ) (c : Dev nD)

/-- The regions a device starts from. -/
def argX (i : Fin 5000) (e : Fin 4) : EReal := (V0 m c (Proc.devRef .tc main_arg0) : Vec Ideal S5000x4 .f32) (ix2 i e)
/-- Their scores. -/
def argP (i : Fin 5000) (j : Fin 81) : EReal := (V0 m c (Proc.devRef .tc main_arg1) : Vec Ideal S5000x81 .f32) (ix2 i j)
/-- Their refinements. -/
def argD (i : Fin 5000) (j : Fin 81) (e : Fin 4) : EReal := (V0 m c (Proc.devRef .tc main_arg2) : Vec Ideal S5000x81x4 .f32) (ix3 i j e)

theorem V1_arg0 : V1 m c (Proc.devRef .tc main_arg0) = V0 m c (Proc.devRef .tc main_arg0) := V1_of m c main_arg0 (by decide)
theorem V1_arg1 : V1 m c (Proc.devRef .tc main_arg1) = V0 m c (Proc.devRef .tc main_arg1) := V1_of m c main_arg1 (by decide)

theorem row_x (i : Fin 5000) : rowX (V1 m c (Proc.devRef .tc main_arg0)) i = argX m c i := by rw [V1_arg0]; rfl
theorem row_p (i : Fin 5000) : rowP (V1 m c (Proc.devRef .tc main_arg1)) i = argP m c i := by rw [V1_arg1]; rfl
theorem row_d (i : Fin 5000) : rowD (V1 m c (Proc.devRef .tc main_v0)) i = argD m c i := by
  funext j e
  exact pre0_v0 (V0 m c) i j e

/-- A row's box, moved by its class. -/
def offB (i : Fin 5000) : Fin 4 → EReal := offOf (argX m c i) (argP m c i) (argD m c i)
/-- A row's score, −1 where it is not kept. -/
def scoA (i : Fin 5000) : EReal := scoreOf (argP m c i)

theorem A_v1_0 (i : Fin 5000) (e : Fin 4) : (valA m c (Proc.devRef .tc main_v1_0) : Vec Ideal S5000x4 .f32) (ix2 i e) = boxOf (argX m c i) (argP m c i) (argD m c i) e := by
  rw [valA_0, outA3_apply, row_x, row_p, row_d]
theorem A_v1_1 (i : Fin 5000) (e : Fin 4) : (valA m c (Proc.devRef .tc main_v1_1) : Vec Ideal S5000x4 .f32) (ix2 i e) = offB m c i e := by
  rw [valA_1, outA4_apply, row_x, row_p, row_d]; rfl
theorem A_v1_2 (i : Fin 5000) : (valA m c (Proc.devRef .tc main_v1_2) : Vec Ideal S5000x1 .f32) (ix2 i 0) = (((top (argP m c i)).val : ℝ) : EReal) := by
  rw [valA_2, outA5_apply, row_p]
theorem A_v1_3 (i : Fin 5000) : (valA m c (Proc.devRef .tc main_v1_3) : Vec Ideal S5000x1 .f32) (ix2 i 0) = argP m c i (top (argP m c i)) := by
  rw [valA_3, outA6_apply, row_p]
theorem A_v1_4 (i : Fin 5000) : (valA m c (Proc.devRef .tc main_v1_4) : Vec Ideal S5000x1 .f32) (ix2 i 0) = scoA m c i := by
  rw [valA_4, outA7_apply, row_p]; rfl

theorem V13_HB : V13 m (outsA m) c = HB (valA m c) := by
  have h : V2 m (outsA m) c = valA m c := V2_eq m c
  show HB (V2 m (outsA m) c) = _
  rw [h]

/-- The padded boxes. -/
def padC : Fin 5120 → Fin 4 → EReal := padf (fun _ => (0 : EReal)) (offB m c)
/-- The padded scores. -/
def padS : Fin 5120 → EReal := padf (-1 : EReal) (scoA m c)

theorem in_v2 (i : Fin 5120) (e : Fin 4) : (V13 m (outsA m) c (Proc.devRef .tc main_v2) : Vec Ideal S5120x4 .f32) (ix2 i e) = padC m c i e := by
  rw [V13_HB, HB_v2]
  exact congrArg (fun g => padf (fun _ => (0 : EReal)) g i e) (funext fun i => funext fun e => A_v1_1 m c i e)
theorem in_v12 (e : Fin 4) (i : Fin 5120) : (V13 m (outsA m) c (Proc.devRef .tc main_v12) : Vec Ideal S4x5120 .f32) (ix2 e i) = padC m c i e := by
  rw [V13_HB, HB_v12]
  exact congrArg (fun g => padf (fun _ => (0 : EReal)) g i e) (funext fun i => funext fun e => A_v1_1 m c i e)
theorem in_v3 (i : Fin 5120) : (V13 m (outsA m) c (Proc.devRef .tc main_v3) : Vec Ideal S5120x1 .f32) (ix2 i 0) = padS m c i := by
  rw [V13_HB, HB_v3]
  exact congrArg (fun g => padf (-1 : EReal) g i) (funext fun i => A_v1_4 m c i)
theorem in_v13 (i : Fin 5120) : (V13 m (outsA m) c (Proc.devRef .tc main_v13) : Vec Ideal S1x5120 .f32) (ix2 0 i) = padS m c i := by
  rw [V13_HB, HB_v13]
  exact congrArg (fun g => padf (-1 : EReal) g i) (funext fun i => A_v1_4 m c i)
theorem in_v11 (i : Fin 5000) (e : Fin 6) : (V13 m (outsA m) c (Proc.devRef .tc main_v11) : Vec Ideal S8x5120 .f32) (ix2 ⟨e.val, by omega⟩ (Fin.castLE (by omega) i))
    = if h : e.val < 4 then boxOf (argX m c i) (argP m c i) (argD m c i) ⟨e.val, h⟩
      else if e.val = 4 then (((top (argP m c i)).val : ℝ) : EReal) else argP m c i (top (argP m c i)) := by
  rw [V13_HB, HB_v11, A_v1_2, A_v1_3]
  by_cases h : e.val < 4
  · rw [dif_pos h, dif_pos h, A_v1_0]
  · rw [dif_neg h, dif_neg h]

theorem padS_pos (j : Fin 5120) (h : 0 ≤ padS m c j) : 0 < padS m c j := by
  unfold padS padf at h ⊢
  split_ifs at h ⊢ with hj
  · exact score_pos _ h
  · exact absurd neg_one_lt h.not_gt

/-- The rows the kernel's suppression leaves. -/
def leftB (i : Fin 5120) : Prop :=
  aliveB (V13 m (outsA m) c (Proc.devRef .tc main_v2)) (V13 m (outsA m) c (Proc.devRef .tc main_v3)) (V13 m (outsA m) c (Proc.devRef .tc main_v12))
    (V13 m (outsA m) c (Proc.devRef .tc main_v13)) i

theorem leftB_fix : Fix (fun j => 0 ≤ padf (-1) (scoA m c) j)
    (fun i j => ovK (padf (fun _ => (0 : EReal)) (offB m c) i) (padf (fun _ => (0 : EReal)) (offB m c) j) ∧ prec (padf (-1) (scoA m c)) i j) (leftB m c) :=
  (whEnd_spec _ _ _ _ (padC m c) (padS m c) (in_v2 m c) (in_v3 m c) (in_v12 m c) (in_v13 m c)).1

/-- The packed rows: boxes, classes and scores. -/
def packB (e : Fin 6) (i : Fin 5120) : EReal := (V13 m (outsA m) c (Proc.devRef .tc main_v11) : Vec Ideal S8x5120 .f32) (ix2 ⟨e.val, by omega⟩ i)

open Classical in
/-- The result at a row and a column: the packed rows summed over the survivor of that rank. -/
theorem result_sum (k : Fin 100) (e : Fin 6) :
    (V15 m (outs m) c (Proc.devRef .tc main_v17) : Vec Ideal S100x6 .f32) (ix2 k e)
      = (∑ i, packB m c e i * (if leftB m c i ∧ rank (padf (-1) (scoA m c)) (leftB m c) i = k.val then 1 else 0) : EReal) := by
  refine (post_v17 (V14 m (outs m) c) k e).trans ?_
  rw [V14_eq, Function.update_self]
  exact outB_apply _ _ _ _ _ (padC m c) (padS m c) (in_v2 m c) (in_v3 m c) (in_v12 m c) (in_v13 m c) (padS_pos m c) _ _

end Cert.Proof.PI
end
-- ==== Proof.RI.Gath.lean ====
module

public import proofs.«01_k».proof.Proof.RI.Frame
public import Idealize.ShloMosaic.Lib.Pointwise
public import Idealize.ShloMosaic.Lib.ValueIdx
public import Idealize.ShloMosaic.Lib.StableHlo.ReadAt
public import Idealize.ShloMosaic.PureOps.Ideal

@[expose] public section
noncomputable section
namespace Cert.Proof.RI

open Cert.ReferenceIdeal Cert.ReferenceIdeal.Gen Cert.ReferenceIdeal.Value
open Idealize.ShloMosaic Idealize.ShloMosaic.StableHlo Idealize.ShloMosaic.TcCoe

/-- A word below the bound, clamped to it, is its number. -/
theorem clampW {a N : ℕ} (h : a ≤ N) (hN : N < 2 ^ 31) : min (BitVec.ofNat 32 a).toInt.toNat N = a := by
  have h1 : (BitVec.ofNat 32 a).toInt = (a : ℤ) := by
    rw [BitVec.toInt_eq_toNat_cond, BitVec.toNat_ofNat, Nat.mod_eq_of_lt (by omega), if_pos (by omega)]
  rw [h1]; omega

/-- The same for any word that equals it. -/
theorem clampWord {w : BitVec 32} {a N : ℕ} (hw : w = BitVec.ofNat 32 a) (h : a ≤ N) (hN : N < 2 ^ 31) : min w.toInt.toNat N = a := by
  rw [hw]; exact clampW h hN

variable {α : Type}

/-- The class score of each row: the entry at the row and column the two index words name. -/
theorem gath_score (x : S5000x81.Idx → α) (ids : IVec S5000x2 32) (i a : Fin 5000) (b : Fin 81)
    (ha : ids (ix2 i 0) = BitVec.ofNat 32 a.val) (hb : ids (ix2 i 1) = BitVec.ofNat 32 b.val) :
    Host.gather gather_S5000x81_S5000x2_S5000_n_01_n_n_01_1_11 x ids (ix1 i) = x (ix2 a b) := by
  have h : Host.gather gather_S5000x81_S5000x2_S5000_n_01_n_n_01_1_11 x ids (ix1 i)
      = x (ix2 ⟨min (ids (ix2 i 0)).toInt.toNat 4999, by omega⟩ ⟨min (ids (ix2 i 1)).toInt.toNat 80, by omega⟩) := by
    unfold Host.gather
    congr 1
    funext k
    refine Fin.ext ?_
    fin_cases k
    · have : gather_S5000x81_S5000x2_S5000_n_01_n_n_01_1_11.siIdx (ix1 i) ⟨0, by decide⟩ = ix2 i 0 := by
        funext b; fin_cases b <;> rfl
      exact congrArg (fun z => min (ids z).toInt.toNat 4999) this
    · have : gather_S5000x81_S5000x2_S5000_n_01_n_n_01_1_11.siIdx (ix1 i) ⟨1, by decide⟩ = ix2 i 1 := by
        funext b; fin_cases b <;> rfl
      exact congrArg (fun z => min (ids z).toInt.toNat 80) this
  rw [h]
  congr 2
  · refine Fin.ext ?_
    exact clampWord ha (by omega) (by omega)
  · refine Fin.ext ?_
    exact clampWord hb (by omega) (by omega)

/-- The four refinements of each row: those at the row and class the two index words name. -/
theorem gath_delta (x : S5000x81x4.Idx → α) (ids : IVec S5000x2 32) (i a : Fin 5000) (b : Fin 81) (e : Fin 4)
    (ha : ids (ix2 i 0) = BitVec.ofNat 32 a.val) (hb : ids (ix2 i 1) = BitVec.ofNat 32 b.val) :
    Host.gather gather_S5000x81x4_S5000x2_S5000x4_1_01_n_n_01_1_114 x ids (ix2 i e) = x (ix3 a b e) := by
  have h : Host.gather gather_S5000x81x4_S5000x2_S5000x4_1_01_n_n_01_1_114 x ids (ix2 i e)
      = x (ix3 ⟨min (ids (ix2 i 0)).toInt.toNat 4999, by omega⟩ ⟨min (ids (ix2 i 1)).toInt.toNat 80, by omega⟩ e) := by
    unfold Host.gather
    congr 1
    funext k
    refine Fin.ext ?_
    fin_cases k
    · have : gather_S5000x81x4_S5000x2_S5000x4_1_01_n_n_01_1_114.siIdx (ix2 i e) ⟨0, by decide⟩ = ix2 i 0 := by
        funext b; fin_cases b <;> rfl
      exact congrArg (fun z => min (ids z).toInt.toNat 4999) this
    · have : gather_S5000x81x4_S5000x2_S5000x4_1_01_n_n_01_1_114.siIdx (ix2 i e) ⟨1, by decide⟩ = ix2 i 1 := by
        funext b; fin_cases b <;> rfl
      exact congrArg (fun z => min (ids z).toInt.toNat 80) this
    · show 0 + 0 + e.val = e.val
      omega
  rw [h]
  congr 2
  · refine Fin.ext ?_
    exact clampWord ha (by omega) (by omega)
  · refine Fin.ext ?_
    exact clampWord hb (by omega) (by omega)

/-- The rows of a table of boxes, taken at the rows the index words name. -/
theorem gath_rows (x : S5000x4.Idx → α) (ids : IVec S5000x1 32) (i a : Fin 5000) (e : Fin 4)
    (ha : ids (ix2 i 0) = BitVec.ofNat 32 a.val) :
    Host.gather gather_S5000x4_S5000x1_S5000x4_1_0_n_n_0_1_14 x ids (ix2 i e) = x (ix2 a e) := by
  have h : Host.gather gather_S5000x4_S5000x1_S5000x4_1_0_n_n_0_1_14 x ids (ix2 i e)
      = x (ix2 ⟨min (ids (ix2 i 0)).toInt.toNat 4999, by omega⟩ e) := by
    unfold Host.gather
    congr 1
    funext k
    refine Fin.ext ?_
    fin_cases k
    · have : gather_S5000x4_S5000x1_S5000x4_1_0_n_n_0_1_14.siIdx (ix2 i e) ⟨0, by decide⟩ = ix2 i 0 := by
        funext b; fin_cases b <;> rfl
      exact congrArg (fun z => min (ids z).toInt.toNat 4999) this
    · show 0 + 0 + e.val = e.val
      omega
  rw [h]
  congr 2
  refine Fin.ext ?_
  exact clampWord ha (by omega) (by omega)

/-- The entries of a column, taken at the rows the index words name. -/
theorem gath_col (x : S5000.Idx → α) (ids : IVec S5000x1 32) (i a : Fin 5000)
    (ha : ids (ix2 i 0) = BitVec.ofNat 32 a.val) :
    Host.gather gather_S5000_S5000x1_S5000_n_0_n_n_0_1_1 x ids (ix1 i) = x (ix1 a) := by
  have h : Host.gather gather_S5000_S5000x1_S5000_n_0_n_n_0_1_1 x ids (ix1 i)
      = x (ix1 ⟨min (ids (ix2 i 0)).toInt.toNat 4999, by omega⟩) := by
    unfold Host.gather
    congr 1
    funext k
    refine Fin.ext ?_
    fin_cases k
    have : gather_S5000_S5000x1_S5000_n_0_n_n_0_1_1.siIdx (ix1 i) ⟨0, by decide⟩ = ix2 i 0 := by
      funext b; fin_cases b <;> rfl
    exact congrArg (fun z => min (ids z).toInt.toNat 4999) this
  rw [h]
  congr 2
  refine Fin.ext ?_
  exact clampWord ha (by omega) (by omega)

/-- The entries of a column, taken at the hundred rows the index words name. -/
theorem gath_col100 (x : S5000.Idx → α) (ids : IVec S100x1 32) (k : Fin 100) (a : Fin 5000)
    (ha : ids (ix2 k 0) = BitVec.ofNat 32 a.val) :
    Host.gather gather_S5000_S100x1_S100_n_0_n_n_0_1_1 x ids (ix1 k) = x (ix1 a) := by
  have h : Host.gather gather_S5000_S100x1_S100_n_0_n_n_0_1_1 x ids (ix1 k)
      = x (ix1 ⟨min (ids (ix2 k 0)).toInt.toNat 4999, by omega⟩) := by
    unfold Host.gather
    congr 1
    funext e
    refine Fin.ext ?_
    fin_cases e
    have : gather_S5000_S100x1_S100_n_0_n_n_0_1_1.siIdx (ix1 k) ⟨0, by decide⟩ = ix2 k 0 := by
      funext b; fin_cases b <;> rfl
    exact congrArg (fun z => min (ids z).toInt.toNat 4999) this
  rw [h]
  congr 2
  refine Fin.ext ?_
  exact clampWord ha (by omega) (by omega)

/-- The rows of a table of boxes, taken at the hundred rows the index words name. -/
theorem gath_rows100 (x : S5000x4.Idx → α) (ids : IVec S100x1 32) (k : Fin 100) (a : Fin 5000) (e : Fin 4)
    (ha : ids (ix2 k 0) = BitVec.ofNat 32 a.val) :
    Host.gather gather_S5000x4_S100x1_S100x4_1_0_n_n_0_1_14 x ids (ix2 k e) = x (ix2 a e) := by
  have h : Host.gather gather_S5000x4_S100x1_S100x4_1_0_n_n_0_1_14 x ids (ix2 k e)
      = x (ix2 ⟨min (ids (ix2 k 0)).toInt.toNat 4999, by omega⟩ e) := by
    unfold Host.gather
    congr 1
    funext b
    refine Fin.ext ?_
    fin_cases b
    · have : gather_S5000x4_S100x1_S100x4_1_0_n_n_0_1_14.siIdx (ix2 k e) ⟨0, by decide⟩ = ix2 k 0 := by
        funext b; fin_cases b <;> rfl
      exact congrArg (fun z => min (ids z).toInt.toNat 4999) this
    · show 0 + 0 + e.val = e.val
      omega
  rw [h]
  congr 2
  refine Fin.ext ?_
  exact clampWord ha (by omega) (by omega)

end Cert.Proof.RI
end
-- ==== Proof.RI.Arg.lean ====
module

public import proofs.«01_k».proof.Proof.RI.Gath
public import proofs.«01_k».proof.Proof.Nms.Row

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

theorem slt_small (c j : Fin 81) : IntOp.cmpi .slt (BitVec.ofNat 32 c.val) (BitVec.ofNat 32 j.val) = BitVec.ofBool (decide (c < j)) := by
  revert c j; decide +kernel

open Classical in
/-- The step of the argmax: it keeps the greater score, of two equal ones the one that comes first. -/
theorem red_apply (v u : EReal) (c j : Fin 81) :
    reducer_argmax_f32_i32 (F := Ideal) (v, BitVec.ofNat 32 c.val) (u, BitVec.ofNat 32 j.val)
      = (if u < v then v else u, if u < v ∨ (v = u ∧ c < j) then BitVec.ofNat 32 c.val else BitVec.ofNat 32 j.val) := by
  unfold reducer_argmax_f32_i32
  dsimp only
  rw [slt_small]
  simp only [Ideal.cmpf_def, Ideal.cmp]
  by_cases h1 : u < v
  · have h2 : v ≠ u := ne_of_gt h1
    simp [h1, h2, IntOp.ori, IntOp.andi, Scalar.select]
  · by_cases h2 : v = u
    · by_cases h3 : c < j
      · simp [h2, h3, IntOp.ori, IntOp.andi, Scalar.select]
      · simp [h2, h3, IntOp.ori, IntOp.andi, Scalar.select]
    · simp [h1, h2, IntOp.ori, IntOp.andi, Scalar.select]

/-- What the argmax's fold has after some of a row's entries. -/
def Inv (r : Fin 81 → EReal) (L : List (Fin 81)) (s : EReal × BitVec 32) : Prop :=
  ∃ c : Fin 81, s.2 = BitVec.ofNat 32 c.val ∧ (∀ j ∈ L, r j ≤ s.1) ∧
    ((s.1 = r c ∧ ∀ j ∈ L, r j = s.1 → c ≤ j) ∨ (s.1 = ⊥ ∧ c = 0))

theorem inv_step (r : Fin 81 → EReal) (L : List (Fin 81)) (s : EReal × BitVec 32) (j : Fin 81) (h : Inv r L s) :
    Inv r (L ++ [j]) (reducer_argmax_f32_i32 (F := Ideal) s (r j, BitVec.ofNat 32 j.val)) := by
  obtain ⟨v, w⟩ := s
  obtain ⟨c, hc, hle, hor⟩ := h
  dsimp only at hc hle hor
  subst hc
  rw [red_apply]
  by_cases h1 : r j < v
  · refine ⟨c, by simp [h1], ?_, ?_⟩
    · intro k hk
      rcases List.mem_append.mp hk with hk | hk
      · simpa [h1] using hle k hk
      · obtain rfl := List.mem_singleton.mp hk; simpa [h1] using h1.le
    · rcases hor with ⟨he, hm⟩ | ⟨he, hz⟩
      · refine .inl ⟨by simpa [h1] using he, fun k hk hkv => ?_⟩
        simp only [h1, if_true] at hkv
        rcases List.mem_append.mp hk with hk | hk
        · exact hm k hk hkv
        · obtain rfl := List.mem_singleton.mp hk; exact absurd hkv h1.ne
      · exact .inr ⟨by simpa [h1] using he, hz⟩
  · have h1' : v ≤ r j := not_lt.mp h1
    by_cases h2 : v = r j ∧ c < j
    · refine ⟨c, by simp [h2], ?_, ?_⟩
      · intro k hk
        simp only [h1, if_false]
        rcases List.mem_append.mp hk with hk | hk
        · exact (hle k hk).trans h1'
        · obtain rfl := List.mem_singleton.mp hk; exact le_refl _
      · rcases hor with ⟨he, hm⟩ | ⟨he, hz⟩
        · refine .inl ⟨by simp only [h1, if_false]; exact h2.1.symm.trans he, fun k hk hkv => ?_⟩
          simp only [h1, if_false] at hkv
          rcases List.mem_append.mp hk with hk | hk
          · exact hm k hk (hkv.trans h2.1.symm)
          · obtain rfl := List.mem_singleton.mp hk; exact h2.2.le
        · exact .inr ⟨by simp only [h1, if_false]; exact h2.1.symm.trans he, hz⟩
    · refine ⟨j, by simp only [h1, h2, false_or, if_false], ?_, ?_⟩
      · intro k hk
        simp only [h1, if_false]
        rcases List.mem_append.mp hk with hk | hk
        · exact (hle k hk).trans h1'
        · obtain rfl := List.mem_singleton.mp hk; exact le_refl _
      · refine .inl ⟨by simp only [h1, if_false], fun k hk hkv => ?_⟩
        simp only [h1, if_false] at hkv
        rcases List.mem_append.mp hk with hk | hk
        · have hv : v = r j := le_antisymm h1' (hkv ▸ hle k hk)
          have hjc : j ≤ c := not_lt.mp fun hlt => h2 ⟨hv, hlt⟩
          rcases hor with ⟨he, hm⟩ | ⟨he, hz⟩
          · exact hjc.trans (hm k hk (hkv.trans hv.symm))
          · exact (hjc.trans (hz ▸ Fin.zero_le k))
        · obtain rfl := List.mem_singleton.mp hk; exact le_refl _

theorem inv_fold (r : Fin 81 → EReal) (K L : List (Fin 81)) (s : EReal × BitVec 32) (h : Inv r L s) :
    Inv r (L ++ K) ((K.map fun j => (r j, BitVec.ofNat 32 j.val)).foldl (reducer_argmax_f32_i32 (F := Ideal)) s) := by
  induction K generalizing L s with
  | nil => simpa using h
  | cons j K ih =>
    have := ih (L ++ [j]) _ (inv_step r L s j h)
    simpa using this

/-- The argmax's fold over all of a row's entries ends at the first place of its greatest. -/
theorem fold_top (r : Fin 81 → EReal) (K : List (Fin 81)) (hK : ∀ j, j ∈ K) :
    ((K.map fun j => (r j, BitVec.ofNat 32 j.val)).foldl (reducer_argmax_f32_i32 (F := Ideal)) (⊥, 0#32)).2
      = BitVec.ofNat 32 (top r).val := by
  obtain ⟨c, hc, hle, hor⟩ := inv_fold r K [] (⊥, 0#32) ⟨0, rfl, by simp, .inr ⟨rfl, rfl⟩⟩
  rw [hc]
  have ht : IsTop r c := by
    rcases hor with ⟨he, hm⟩ | ⟨he, hz⟩
    · refine ⟨fun j => he ▸ hle j (by simpa using hK j), fun j hj => ?_⟩
      refine lt_of_le_of_ne (he ▸ hle j (by simpa using hK j)) fun h => ?_
      exact absurd hj (not_lt.mpr (hm j (by simpa using hK j) (h.trans he.symm)))
    · refine ⟨fun j => (he ▸ hle j (by simpa using hK j)).trans bot_le, fun j hj => ?_⟩
      subst hz; exact absurd hj (by simp)
  rw [ht.eq_top]

/-- The reference's argmax: each row's best class. -/
theorem argmax_word (x : FVec Ideal S5000x81 .f32) (h : S5000x81.ReducesTo [1] S5000) (hu : 0 < S_.numel) (i : Fin 5000) :
    (Host.argReduce (reducer_argmax_f32_i32 (F := Ideal)) x (iotaInDim S5000x81 32 1) (constant S_ .f32 0xFF800000#32) (constantI S_ 32 0#32) h hu (ix1 i)).2
      = BitVec.ofNat 32 (top fun j => x (ix2 i j)).val := by
  rw [Ideal.argReduce_eq_reduce2, Host.reduce2_eq_foldl_fiber]
  have hdrop : ∀ n : S5000x81.Idx, h.drop n = ix1 i ↔ (n 0).val = i.val := by
    intro n
    have h0 : ((h.drop n) 0).val = (n 0).val := h.drop_apply_val_of_eq n 0 0 (by decide)
    constructor
    · intro e; rw [← h0, e]; rfl
    · intro e; funext b; refine Fin.ext ?_
      obtain rfl : b = 0 := Subsingleton.elim _ _
      exact h0.trans e
  have hl : Host.argReduceFiber x (iotaInDim S5000x81 32 1) h (ix1 i)
      = ((((List.finRange S5000x81.numel).filter fun n => h.drop (S5000x81.rowMajor.symm n) = ix1 i).map
          fun n => (⟨((S5000x81.rowMajor.symm n) 1).val, (S5000x81.rowMajor.symm n 1).isLt⟩ : Fin 81)).map
            fun j => (x (ix2 i j), BitVec.ofNat 32 j.val)) := by
    rw [Host.argReduceFiber, List.map_map]
    refine List.map_congr_left fun n hn => ?_
    have hn' := (hdrop _).mp (by simpa using (List.mem_filter.mp hn).2)
    have he : S5000x81.rowMajor.symm n = ix2 i ⟨((S5000x81.rowMajor.symm n) 1).val, (S5000x81.rowMajor.symm n 1).isLt⟩ := by
      funext b; refine Fin.ext ?_
      fin_cases b
      · exact hn'
      · rfl
    refine Prod.ext ?_ ?_
    · exact congrArg x he
    · rfl
  rw [hl]
  have hb : ((constant (F := Ideal) S_ .f32 0xFF800000#32) (Shape.Idx.first hu), (constantI S_ 32 0#32) (Shape.Idx.first hu)) = ((⊥ : EReal), 0#32) := by
    refine Prod.ext ?_ rfl
    exact lit_bot
  have hb' := congrArg (fun z => (List.foldl (reducer_argmax_f32_i32 (F := Ideal)) z
    ((((List.finRange S5000x81.numel).filter fun n => h.drop (S5000x81.rowMajor.symm n) = ix1 i).map
          fun n => (⟨((S5000x81.rowMajor.symm n) 1).val, (S5000x81.rowMajor.symm n 1).isLt⟩ : Fin 81)).map
            fun j => (x (ix2 i j), BitVec.ofNat 32 j.val))).2) hb
  refine hb'.trans ?_
  refine fold_top (fun j => x (ix2 i j)) _ fun j => ?_
  refine List.mem_map.mpr ⟨S5000x81.rowMajor (ix2 i j), List.mem_filter.mpr ⟨List.mem_finRange _, ?_⟩, ?_⟩
  · simpa using (hdrop (ix2 i j)).mpr rfl
  · refine Fin.ext ?_
    simp only [Equiv.symm_apply_apply]
    rfl

end Cert.Proof.RI
end
-- ==== Proof.RI.ValE.lean ====
module

public import proofs.«01_k».proof.Proof.RI.Arg
public import proofs.«01_k».proof.Proof.Nms.Abs

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

section
variable (V : Valuation τ sig (Elt Ideal))

/-- A region, in coordinates. -/
def rois (i : Fin 5000) (c : Fin 4) : EReal := (V (Proc.devRef .tc main_arg0) : Vec Ideal S5000x4 .f32) (ix2 i c)
/-- A region's scores, one a class. -/
def probs (i : Fin 5000) (j : Fin 81) : EReal := (V (Proc.devRef .tc main_arg1) : Vec Ideal S5000x81 .f32) (ix2 i j)
/-- A region's refinements, four a class. -/
def deltas (i : Fin 5000) (j : Fin 81) (e : Fin 4) : EReal := (V (Proc.devRef .tc main_arg2) : Vec Ideal S5000x81x4 .f32) (ix3 i j e)

/-- The contents after the constants and the argmax. -/
def E1 : Valuation τ sig (Elt Ideal) := after hostOps0_1 (after hostOps0 V)
/-- The contents after the refined coordinates. -/
def E2 : Valuation τ sig (Elt Ideal) := after hostOps0_2 (E1 V)
/-- The contents after the rounded boxes. -/
def E3 : Valuation τ sig (Elt Ideal) := after hostOps0_11 (after hostOps0_10 (after hostOps0_9 (after hostOps0_8 (after hostOps0_7
  (after hostOps0_6 (after hostOps0_5 (after hostOps0_4 (after hostOps0_3 (E2 V)))))))))
/-- The contents after the order by score. -/
def E4 : Valuation τ sig (Elt Ideal) := after hostOps0_15 (after hostOps0_14 (after hostOps0_13 (after hostOps0_12 (E3 V))))
/-- The contents where the loop starts. -/
def E5 : Valuation τ sig (Elt Ideal) := after hostOps0_16 (E4 V)

theorem E1_arg0 : E1 V (Proc.devRef .tc main_arg0) = V (Proc.devRef .tc main_arg0) := by unfold E1; after_reads_simp
theorem E1_arg1 : E1 V (Proc.devRef .tc main_arg1) = V (Proc.devRef .tc main_arg1) := by unfold E1; after_reads_simp
theorem E1_arg2 : E1 V (Proc.devRef .tc main_arg2) = V (Proc.devRef .tc main_arg2) := by unfold E1; after_reads_simp
theorem E1_cst (e : Fin 4) : (E1 V (Proc.devRef .tc main_cst) : Vec Ideal S4 .f32) (ix1 e) = stdv e := by
  unfold E1
  after_reads_simp
  fin_cases e <;> rfl
theorem E1_cst_0 (e : Fin 4) : (E1 V (Proc.devRef .tc main_cst_0) : Vec Ideal S4 .f32) (ix1 e) = Ideal.ofBits .f32 0x44800000#32 := by
  unfold E1
  after_reads_simp
  rfl

theorem E1_v0 (i : Fin 5000) : (E1 V (Proc.devRef .tc main_v0) : IVec S5000 32) (ix1 i) = BitVec.ofNat 32 (top (probs V i)).val := by
  unfold E1
  after_reads_simp
  simp -implicitDefEqProofs only [StableHlo.TRef.toBuf, StableHlo.TRef.ofBuf, cast_cast, cast_eq]
  exact argmax_word _ _ _ i

/-- A word that is not negative is itself once wrapped. -/
theorem wrapW (a : ℕ) (h : a < 2 ^ 31) (w : BitVec 32) :
    Scalar.select (IntOp.cmpi .slt (BitVec.ofNat 32 a) 0#32) w (BitVec.ofNat 32 a) = BitVec.ofNat 32 a := by
  have : IntOp.cmpi .slt (BitVec.ofNat 32 a) 0#32 = 0#1 := by
    simp only [IntOp.cmpi]
    have h1 : (BitVec.ofNat 32 a).slt 0#32 = false := by
      rw [BitVec.slt, toInt_small h]
      simp
    rw [h1]; rfl
  rw [this]; rfl

theorem E2_v0 : E2 V (Proc.devRef .tc main_v0) = E1 V (Proc.devRef .tc main_v0) := by unfold E2; after_reads_simp

theorem E2_v15 (i : Fin 5000) : (E2 V (Proc.devRef .tc main_v15) : Vec Ideal S5000 .f32) (ix1 i) = probs V i (top (probs V i)) := by
  unfold E2
  after_reads_simp
  clean_types
  rw [gath_score _ _ i i (top (probs V i)), E1_arg1]
  · rfl
  · pointwise
    after_reads_simp
    clean_types
    pointwise
    exact wrapW _ (by omega) _
  · pointwise
    after_reads_simp
    clean_types
    pointwise
    rw [E1_v0]
    exact wrapW _ (by omega) _

/-- The unrounded refined box, in units of the image. -/
def rawBox (x δ : Fin 4 → EReal) : Fin 4 → EReal :=
  ![lo (x 0) (x 2) (δ 0) (δ 2), lo (x 1) (x 3) (δ 1) (δ 3), hi (x 0) (x 2) (δ 0) (δ 2), hi (x 1) (x 3) (δ 1) (δ 3)]

theorem refine4_eq (x δ : Fin 4 → EReal) (c : Fin 4) : refine4 x δ c = rnd (rawBox x δ c) := by
  fin_cases c <;> rfl

theorem gath29 (i : Fin 5000) (ids : IVec S5000x2 32) (h0 : ids (ix2 i 0) = BitVec.ofNat 32 i.val)
    (h1 : ids (ix2 i 1) = (E1 V (Proc.devRef .tc main_v0) : IVec S5000 32) (ix1 i)) (e : Fin 4) :
    Host.gather gather_S5000x81x4_S5000x2_S5000x4_1_01_n_n_01_1_114 (V (Proc.devRef .tc main_arg2) : Vec Ideal S5000x81x4 .f32) ids (ix2 i e)
      = deltas V i (top (probs V i)) e :=
  gath_delta _ ids i i (top (probs V i)) e h0 (h1.trans (E1_v0 V i))

theorem E2_v29 (i : Fin 5000) (e : Fin 4) : (E2 V (Proc.devRef .tc main_v29) : Vec Ideal S5000x4 .f32) (ix2 i e) = deltas V i (top (probs V i)) e := by
  unfold E2
  after_reads_simp
  clean_types
  rw [E1_arg2]
  refine gath29 V i _ ?_ ?_ e
  · pointwise
    after_reads_simp
    clean_types
    pointwise
    exact wrapW _ (by omega) _
  · pointwise
    after_reads_simp
    clean_types
    pointwise
    rw [E1_v0]
    exact wrapW _ (by omega) _

theorem E2_v84 (i : Fin 5000) (c : Fin 4) : (E2 V (Proc.devRef .tc main_v84) : Vec Ideal S5000x4 .f32) (ix2 i c)
    = rawBox (rois V i) (fun e => deltas V i (top (probs V i)) e * stdv e) c * Ideal.ofBits .f32 0x44800000#32 := by
  have hG : ∀ e, (E2 V (Proc.devRef .tc main_v29) : Vec Ideal S5000x4 .f32) (ix2 i e) = deltas V i (top (probs V i)) e := E2_v29 V i
  unfold E2 at hG ⊢
  after_reads_simp
  clean_types
  pointwise
  revert hG
  after_reads_simp
  clean_types
  generalize Host.gather gather_S5000x81x4_S5000x2_S5000x4_1_01_n_n_01_1_114 _ _ = G
  intro hG
  pointwise
  simp only [hG, E1_cst, E1_cst_0, E1_arg0]
  fin_cases c <;> rfl

end
end Cert.Proof.RI
end
-- ==== Proof.RI.ValF.lean ====
module

public import proofs.«01_k».proof.Proof.RI.ValE

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

section
variable (V : Valuation τ sig (Elt Ideal))

theorem E2_v86 (i : Fin 5000) : (E2 V (Proc.devRef .tc main_v86) : Vec Ideal S5000 .f32) (ix1 i)
    = (E2 V (Proc.devRef .tc main_v84) : Vec Ideal S5000x4 .f32) (ix2 i 0) := by
  unfold E2
  after_reads_simp
  clean_types
  pointwise
theorem E2_cst_12 : (E2 V (Proc.devRef .tc main_cst_12) : Vec Ideal S_ .f32) ix0 = (0 : EReal) := by
  unfold E2
  after_reads_simp
  exact (Ideal.ofBits_zero .f32 : Ideal.ofBits .f32 0#32 = 0)
theorem E2_cst_13 : (E2 V (Proc.devRef .tc main_cst_13) : Vec Ideal S_ .f32) ix0 = Ideal.ofBits .f32 0x44800000#32 := by
  unfold E2
  after_reads_simp
  rfl

theorem E3_v0 : E3 V (Proc.devRef .tc main_v0) = E1 V (Proc.devRef .tc main_v0) := by
  unfold E3; after_reads_simp; exact E2_v0 V
theorem E3_v15 : E3 V (Proc.devRef .tc main_v15) = E2 V (Proc.devRef .tc main_v15) := by unfold E3; after_reads_simp

/-- A row's refined box in the reference. -/
theorem E3_v102 (i : Fin 5000) (c : Fin 4) : (E3 V (Proc.devRef .tc main_v102) : Vec Ideal S5000x4 .f32) (ix2 i c)
    = boxOf (rois V i) (probs V i) (deltas V i) c := by
  unfold E3
  after_reads_simp
  try simp -implicitDefEqProofs only [StableHlo.TRef.toBuf, StableHlo.TRef.ofBuf, cast_cast, cast_eq]
  clean_types
  pointwise
  after_reads_simp
  try simp -implicitDefEqProofs only [StableHlo.TRef.toBuf, StableHlo.TRef.ofBuf, cast_cast, cast_eq]
  clean_types
  try simp only [id]
  try pointwise
  rw [boxOf, refine4_eq]
  have h84 := E2_v84 V i
  fin_cases c
  · refine (congrArg (Ideal.liftRound Ideal.roundHalfEven) (congrArg₂ min (E2_cst_13 V) (congrArg₂ max (E2_cst_12 V) ((E2_v86 V i).trans (h84 0))))).trans ?_
    rfl
  · exact congrArg (fun z => Ideal.liftRound Ideal.roundHalfEven (min (Ideal.ofBits .f32 0x44800000#32) (max 0 z))) (h84 1)
  · exact congrArg (fun z => Ideal.liftRound Ideal.roundHalfEven (min (Ideal.ofBits .f32 0x44800000#32) (max 0 z))) (h84 2)
  · exact congrArg (fun z => Ideal.liftRound Ideal.roundHalfEven (min (Ideal.ofBits .f32 0x44800000#32) (max 0 z))) (h84 3)

theorem E4_v0 : E4 V (Proc.devRef .tc main_v0) = E1 V (Proc.devRef .tc main_v0) := by
  unfold E4; after_reads_simp; exact E3_v0 V
theorem E4_v15 : E4 V (Proc.devRef .tc main_v15) = E2 V (Proc.devRef .tc main_v15) := by
  unfold E4; after_reads_simp; exact E3_v15 V
theorem E4_v102 : E4 V (Proc.devRef .tc main_v102) = E3 V (Proc.devRef .tc main_v102) := by unfold E4; after_reads_simp

theorem sgt_small (c : Fin 81) : IntOp.cmpi .sgt (BitVec.ofNat 32 c.val) 0#32 = BitVec.ofBool (decide (0 < c.val)) := by
  revert c; decide +kernel

theorem word_real {n : ℕ} (h : n < 2 ^ 31) : FloatOps.sitofp (F := Ideal) .f32 (BitVec.ofNat 32 n) = ((n : ℝ) : EReal) := by
  show (((BitVec.ofNat 32 n).toInt : ℝ) : EReal) = _
  rw [toInt_small h]; push_cast; rfl

theorem E4_v113 (i : Fin 5000) (c : Fin 4) : (E4 V (Proc.devRef .tc main_v113) : Vec Ideal S5000x4 .f32) (ix2 i c)
    = offOf (rois V i) (probs V i) (deltas V i) c := by
  unfold E4
  after_reads_simp
  try simp -implicitDefEqProofs only [StableHlo.TRef.toBuf, StableHlo.TRef.ofBuf, cast_cast, cast_eq]
  clean_types
  pointwise
  rw [E3_v102, E3_v0, E1_v0, word_real (by omega)]
  rfl

open Classical in
theorem E4_v107 (i : Fin 5000) : (E4 V (Proc.devRef .tc main_v107) : IVec S5000 1) (ix1 i)
    = BitVec.ofBool (decide (keptOf (probs V i))) := by
  unfold E4
  after_reads_simp
  try simp -implicitDefEqProofs only [StableHlo.TRef.toBuf, StableHlo.TRef.ofBuf, cast_cast, cast_eq]
  clean_types
  pointwise
  rw [E3_v0, E1_v0, E3_v15, E2_v15, sgt_small]
  unfold keptOf
  by_cases h1 : 0 < (top (probs V i)).val <;> by_cases h2 : Ideal.ofBits .f32 0x3D4CCCCD#32 ≤ probs V i (top (probs V i)) <;>
    simp [h1, h2, IntOp.andi]

open Classical in
theorem E4_v114 (i : Fin 5000) : (E4 V (Proc.devRef .tc main_v114) : Vec Ideal S5000 .f32) (ix1 i) = scoreOf (probs V i) := by
  have h := E4_v107 V i
  revert h
  unfold E4
  after_reads_simp
  try simp -implicitDefEqProofs only [StableHlo.TRef.toBuf, StableHlo.TRef.ofBuf, cast_cast, cast_eq]
  clean_types
  simp only [id]
  intro h
  refine (congrArg (fun z => Scalar.select z _ _) h).trans ?_
  rw [E3_v15, E2_v15]
  unfold scoreOf
  by_cases hk : keptOf (probs V i)
  · rw [if_pos hk, decide_eq_true hk]; rfl
  · rw [if_neg hk, decide_eq_false hk]; rfl

/-- The order of the rows by score, equal scores by place. -/
def ordOf {n : ℕ} (s : Fin n → EReal) : Fin n → Fin n := sortedFrom fun k k' => by
  classical exact decide (s k' < s k)

theorem ordOf_prec {n : ℕ} (s : Fin n → EReal) (i j : Fin n) (h : i < j) : prec s (ordOf s i) (ordOf s j) :=
  sortedFrom_prec s _ (fun i j => by simp) i j h

theorem ordOf_bij {n : ℕ} (s : Fin n → EReal) : Function.Bijective (ordOf s) :=
  ⟨sortedFrom_injective _, sortedFrom_surjective _⟩

/-- What the sort of a column with a second one leaves of the two. -/
theorem sort2_at {n : ℕ} {α β : Type} (cmp : α × β → α × β → BitVec 1) (x : (⟨1, ![n]⟩ : Shape).Idx → α) (y : (⟨1, ![n]⟩ : Shape).Idx → β) (q : Fin n) :
    (Host.sort2 ⟨1, ![n]⟩ 0 cmp x y).1 (ix1 q) = x (ix1 (sortedFrom (fun k k' : Fin n => cmp (x (ix1 k), y (ix1 k)) (x (ix1 k'), y (ix1 k')) == 1#1) q))
    ∧ (Host.sort2 ⟨1, ![n]⟩ 0 cmp x y).2 (ix1 q) = y (ix1 (sortedFrom (fun k k' : Fin n => cmp (x (ix1 k), y (ix1 k)) (x (ix1 k'), y (ix1 k')) == 1#1) q)) := by
  have h : ∀ k : Fin n, (Shape.Idx.along (ix1 q : (⟨1, ![n]⟩ : Shape).Idx) 0 k : (⟨1, ![n]⟩ : Shape).Idx) = ix1 k := fun k => by
    funext b
    obtain rfl : b = 0 := Subsingleton.elim _ _
    rfl
  have hx : ∀ k : Fin n, x (Shape.Idx.along (ix1 q : (⟨1, ![n]⟩ : Shape).Idx) 0 k) = x (ix1 k) := fun k => congrArg x (h k)
  have hy : ∀ k : Fin n, y (Shape.Idx.along (ix1 q : (⟨1, ![n]⟩ : Shape).Idx) 0 k) = y (ix1 k) := fun k => congrArg y (h k)
  have hs : sortedFrom (fun k k' : Fin n => cmp (x (Shape.Idx.along (ix1 q : (⟨1, ![n]⟩ : Shape).Idx) 0 k), y (Shape.Idx.along (ix1 q : (⟨1, ![n]⟩ : Shape).Idx) 0 k))
      (x (Shape.Idx.along (ix1 q : (⟨1, ![n]⟩ : Shape).Idx) 0 k'), y (Shape.Idx.along (ix1 q : (⟨1, ![n]⟩ : Shape).Idx) 0 k')) == 1#1)
      = sortedFrom (fun k k' : Fin n => cmp (x (ix1 k), y (ix1 k)) (x (ix1 k'), y (ix1 k')) == 1#1) := by
    congr 1
    funext k k'
    rw [hx, hx, hy, hy]
  unfold Host.sort2
  rw [dif_pos (show 0 < (⟨1, ![n]⟩ : Shape).rank from Nat.one_pos)]
  exact ⟨(hx _).trans (congrArg (fun f => x (ix1 (f q))) hs), (hy _).trans (congrArg (fun f => y (ix1 (f q))) hs)⟩

/-- The comparison the reference sorts by, of negated scores. -/
theorem cmp_neg (a b : EReal) (w w' : BitVec 32) : (comparator_f32_i32_d0 (F := Ideal) (-a, w) (-b, w') == 1#1) = true ↔ b < a := by
  have e : ∀ (z : EReal) (N : EReal), Scalar.select (FloatOps.cmpf (F := Ideal) (φ := .f32) .une z z) N
      (Scalar.select (FloatOps.cmpf (F := Ideal) (φ := .f32) .oeq z (FloatOps.ofBits (F := Ideal) .f32 0#32)) (FloatOps.ofBits (F := Ideal) .f32 0#32) z) = z := by
    intro z N
    have h0 : FloatOps.ofBits (F := Ideal) .f32 0#32 = (0 : EReal) := Ideal.ofBits_zero .f32
    rw [h0]
    simp only [Ideal.cmpf_def, Ideal.cmp]
    by_cases hz : z = 0 <;> simp [hz, Scalar.select]
  have e' : comparator_f32_i32_d0 (F := Ideal) (-a, w) (-b, w') = FloatOps.cmpfTotal (F := Ideal) (φ := .f32) .lt (-a) (-b) :=
    congrArg₂ (fun y z => FloatOps.cmpfTotal (F := Ideal) (φ := .f32) .lt y z) (e (-a) _) (e (-b) _)
  rw [e', Ideal.cmpfTotal_def]
  by_cases hba : b < a <;> simp [Ideal.cmp, CmpDirection.ordered, hba]

/-- A column of places, at a place. -/
theorem iota_at (k : Fin 5000) : iotaInDim S5000 32 0 (ix1 k) = BitVec.ofNat 32 k.val := rfl

theorem E4_v116 (q : Fin 5000) : (E4 V (Proc.devRef .tc main_v116) : IVec S5000 32) (ix1 q)
    = BitVec.ofNat 32 (ordOf (fun i => scoreOf (probs V i)) q).val := by
  have h := E4_v114 V
  revert h
  unfold E4
  after_reads_simp
  try simp -implicitDefEqProofs only [StableHlo.TRef.toBuf, StableHlo.TRef.ofBuf, cast_cast, cast_eq]
  clean_types
  generalize select _ _ _ = S
  intro h
  refine (sort2_at (n := 5000) (comparator_f32_i32_d0 (F := Ideal)) (Host.negf S) (iotaInDim S5000 32 0) q).2.trans ?_
  refine (iota_at _).trans ?_
  have hs : (sortedFrom fun k k' : Fin 5000 => comparator_f32_i32_d0 (F := Ideal) (Host.negf S (ix1 k), iotaInDim S5000 32 0 (ix1 k))
      (Host.negf S (ix1 k'), iotaInDim S5000 32 0 (ix1 k')) == 1#1) = ordOf fun i => scoreOf (probs V i) := by
    unfold ordOf
    refine congrArg sortedFrom ?_
    funext k k'
    show (comparator_f32_i32_d0 (F := Ideal) (-(S (ix1 k)), _) (-(S (ix1 k')), _) == 1#1) = _
    rw [h k, h k', Bool.eq_iff_iff, cmp_neg]
    simp
  rw [hs]

end
end Cert.Proof.RI
end
-- ==== Proof.RI.ValG.lean ====
module

public import proofs.«01_k».proof.Proof.RI.ValF

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

section
variable (V : Valuation τ sig (Elt Ideal))

/-- The rows' order by score. -/
def ord : Fin 5000 → Fin 5000 := ordOf fun i => scoreOf (probs V i)

theorem E5_v0 (i : Fin 5000) : (E5 V (Proc.devRef .tc main_v0) : IVec S5000 32) (ix1 i) = BitVec.ofNat 32 (top (probs V i)).val := by
  unfold E5; after_reads_simp; rw [E4_v0, E1_v0]
theorem E5_v15 (i : Fin 5000) : (E5 V (Proc.devRef .tc main_v15) : Vec Ideal S5000 .f32) (ix1 i) = probs V i (top (probs V i)) := by
  unfold E5; after_reads_simp; rw [E4_v15, E2_v15]
theorem E5_v102 (i : Fin 5000) (c : Fin 4) : (E5 V (Proc.devRef .tc main_v102) : Vec Ideal S5000x4 .f32) (ix2 i c)
    = boxOf (rois V i) (probs V i) (deltas V i) c := by
  unfold E5; after_reads_simp; rw [E4_v102, E3_v102]
theorem E5_v116 (q : Fin 5000) : (E5 V (Proc.devRef .tc main_v116) : IVec S5000 32) (ix1 q) = BitVec.ofNat 32 (ord V q).val := by
  unfold E5; after_reads_simp; exact E4_v116 V q

theorem E5_v123 (q : Fin 5000) (c : Fin 4) : (E5 V (Proc.devRef .tc main_v123) : Vec Ideal S5000x4 .f32) (ix2 q c)
    = offOf (rois V (ord V q)) (probs V (ord V q)) (deltas V (ord V q)) c := by
  unfold E5
  after_reads_simp
  try simp -implicitDefEqProofs only [StableHlo.TRef.toBuf, StableHlo.TRef.ofBuf, cast_cast, cast_eq]
  clean_types
  refine (gath_rows _ _ q (ord V q) c ?_).trans (E4_v113 V (ord V q) c)
  pointwise
  rw [E4_v116]
  exact wrapW _ (by omega) _

theorem E5_v130 (q : Fin 5000) : (E5 V (Proc.devRef .tc main_v130) : Vec Ideal S5000 .f32) (ix1 q) = scoreOf (probs V (ord V q)) := by
  unfold E5
  after_reads_simp
  try simp -implicitDefEqProofs only [StableHlo.TRef.toBuf, StableHlo.TRef.ofBuf, cast_cast, cast_eq]
  clean_types
  refine (gath_col _ _ q (ord V q) ?_).trans (E4_v114 V (ord V q))
  pointwise
  rw [E4_v116]
  exact wrapW _ (by omega) _

open Classical in
theorem E5_v186_4 (q : Fin 5000) : (E5 V (Proc.devRef .tc main_v186_4) : IVec S5000 1) (ix1 q)
    = BitVec.ofBool (decide (keptOf (probs V (ord V q)))) := by
  unfold E5
  after_reads_simp
  try simp -implicitDefEqProofs only [StableHlo.TRef.toBuf, StableHlo.TRef.ofBuf, cast_cast, cast_eq]
  clean_types
  simp only [id]
  refine (gath_col _ _ q (ord V q) ?_).trans (E4_v107 V (ord V q))
  pointwise
  rw [E4_v116]
  exact wrapW _ (by omega) _

theorem E5_v186_1 (q : Fin 5000) : (E5 V (Proc.devRef .tc main_v186_1) : IVec S5000 32) (ix1 q) = BitVec.ofNat 32 q.val := by
  unfold E5
  after_reads_simp
  rfl

/-- The reference's table of overlaps, of boxes `B`. -/
theorem iou_at (W : Valuation τ sig (Elt Ideal)) (B : Fin 5000 → Fin 4 → EReal)
    (hB : ∀ q c, (after hostOps0_16 W (Proc.devRef .tc main_v123) : Vec Ideal S5000x4 .f32) (ix2 q c) = B q c) (p q : Fin 5000) :
    (after hostOps0_16 W (Proc.devRef .tc main_v186_0) : Vec Ideal S5000x5000 .f32) (ix2 p q)
      = Ideal.div (interE (B p) (B q)) (max (unionE (B p) (B q)) (Ideal.ofBits .f32 0x322BCC77#32)) := by
  revert hB
  after_reads_simp
  try simp -implicitDefEqProofs only [StableHlo.TRef.toBuf, StableHlo.TRef.ofBuf, cast_cast, cast_eq]
  clean_types
  generalize Host.gather gather_S5000x4_S5000x1_S5000x4_1_0_n_n_0_1_14 _ _ = G
  intro hB
  simp only [id]
  pointwise
  simp only [hB]
  unfold unionE areaE interE
  exact Eq.refl _

theorem E5_v186_0 (p q : Fin 5000) : (E5 V (Proc.devRef .tc main_v186_0) : Vec Ideal S5000x5000 .f32) (ix2 p q)
    = Ideal.div (interE (offOf (rois V (ord V p)) (probs V (ord V p)) (deltas V (ord V p))) (offOf (rois V (ord V q)) (probs V (ord V q)) (deltas V (ord V q))))
        (max (unionE (offOf (rois V (ord V p)) (probs V (ord V p)) (deltas V (ord V p))) (offOf (rois V (ord V q)) (probs V (ord V q)) (deltas V (ord V q))))
          (Ideal.ofBits .f32 0x322BCC77#32)) := by
  exact iou_at (E4 V) (fun q => offOf (rois V (ord V q)) (probs V (ord V q)) (deltas V (ord V q))) (fun q c => E5_v123 V q c) p q

end
end Cert.Proof.RI
end
-- ==== Proof.Nms.Trips.lean ====
module

public import proofs.«01_k».proof.Proof.Nms.Abs

@[expose] public section
namespace Cert.Proof.Nms

variable {n : ℕ} (keep : Fin n → Prop) (ov : Fin n → Fin n → Prop) (A : ℕ → Fin n → Prop)

/-- What is in after some trips: what was kept and was put out by none of those trips. -/
theorem trips_iff (h0 : ∀ q, A 0 q ↔ keep q) (hs : ∀ k q : Fin n, A (k.val + 1) q ↔ A k.val q ∧ ¬ (A k.val k ∧ ov k q ∧ k < q)) (k : ℕ) :
    k ≤ n → ∀ q, A k q ↔ keep q ∧ ∀ p : Fin n, p.val < k → ¬ (A p.val p ∧ ov p q ∧ p < q) := by
  induction k with
  | zero => intro _ q; simp [h0]
  | succ k ih =>
    intro hk q
    rw [hs ⟨k, hk⟩ q, ih (by omega) q]
    constructor
    · rintro ⟨⟨h1, h2⟩, h3⟩
      refine ⟨h1, fun p hp => ?_⟩
      rcases Nat.lt_succ_iff_lt_or_eq.mp hp with hp | hp
      · exact h2 p hp
      · obtain rfl : p = ⟨k, hk⟩ := Fin.ext hp
        exact h3
    · rintro ⟨h1, h2⟩
      exact ⟨⟨h1, fun p hp => h2 p (by omega)⟩, h2 ⟨k, hk⟩ (by simp)⟩

/-- The trips over all rows leave the set the suppression fixes. -/
theorem trips_fix (h0 : ∀ q, A 0 q ↔ keep q) (hs : ∀ k q : Fin n, A (k.val + 1) q ↔ A k.val q ∧ ¬ (A k.val k ∧ ov k q ∧ k < q)) :
    Fix keep (fun p q => p < q ∧ ov p q) (A n) := by
  have hd : ∀ p : Fin n, A n p ↔ A p.val p := by
    intro p
    rw [trips_iff keep ov A h0 hs n (le_refl _) p, trips_iff keep ov A h0 hs p.val p.isLt.le p]
    refine and_congr_right fun _ => ⟨fun h r _ => h r r.isLt, fun h r _ hr => h r hr.2.2 hr⟩
  intro q
  rw [trips_iff keep ov A h0 hs n (le_refl _) q]
  refine and_congr_right fun _ => ⟨?_, ?_⟩
  · rintro h ⟨p, h1, h2, h3⟩
    exact h p p.isLt ⟨(hd p).mp h1, h3, h2⟩
  · rintro h p _ ⟨h1, h2, h3⟩
    exact h ⟨p, (hd p).mpr h1, h3, h2⟩

end Cert.Proof.Nms
end
-- ==== Proof.RI.Loop.lean ====
module

public import proofs.«01_k».proof.Proof.RI.ValG
public import proofs.«01_k».proof.Proof.Nms.Trips

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

theorem toInt_wrap (k : Fin 5000) (w : BitVec 32) :
    (Scalar.select (IntOp.cmpi .slt (BitVec.ofNat 32 k.val) 0#32) w (BitVec.ofNat 32 k.val)).toInt = k.val := by
  rw [wrapW _ (by omega), toInt_small (by omega)]

theorem sgt_words (k q : Fin 5000) : IntOp.cmpi .sgt (BitVec.ofNat 32 q.val) (BitVec.ofNat 32 k.val) = BitVec.ofBool (decide (k < q)) := by
  simp only [IntOp.cmpi]
  congr 1
  rw [BitVec.slt, toInt_small (by omega), toInt_small (by omega)]
  simp

open Classical in
/-- One trip: the rows the current one overlaps, below it, are put out if it is in. -/
theorem step_apply (W : Valuation τ sig (Elt Ideal)) (k q : Fin 5000) (A : Fin 5000 → Prop) (I : Fin 5000 → Fin 5000 → EReal)
    (h3 : W (Proc.devRef .tc main_v186_3) = fun _ => BitVec.ofNat 32 k.val)
    (h4 : ∀ q, (W (Proc.devRef .tc main_v186_4) : IVec S5000 1) (ix1 q) = BitVec.ofBool (decide (A q)))
    (h0 : ∀ p q, (W (Proc.devRef .tc main_v186_0) : Vec Ideal S5000x5000 .f32) (ix2 p q) = I p q)
    (h1 : ∀ q : Fin 5000, (W (Proc.devRef .tc main_v186_1) : IVec S5000 32) (ix1 q) = BitVec.ofNat 32 q.val) :
    (step_main_v186_4 W : IVec S5000 1) (ix1 q)
      = BitVec.ofBool (decide (A q ∧ ¬ (A k ∧ Ideal.ofBits .f32 0x3E99999A#32 < I k q ∧ k < q))) := by
  have key : ∀ (a b c : Fin 5000) (D : Decidable (Ideal.ofBits .f32 0x3E99999A#32 < (W (Proc.devRef .tc main_v186_0) : Vec Ideal S5000x5000 .f32) (ix2 b c))),
      a = k → b = k → c = q →
      Scalar.select (IntOp.andi ((W (Proc.devRef .tc main_v186_4) : IVec S5000 1) (ix1 a))
        (IntOp.andi (BitVec.ofBool (@decide (Ideal.ofBits .f32 0x3E99999A#32 < (W (Proc.devRef .tc main_v186_0) : Vec Ideal S5000x5000 .f32) (ix2 b c)) D))
          (IntOp.cmpi .sgt ((W (Proc.devRef .tc main_v186_1) : IVec S5000 32) (ix1 q)) (BitVec.ofNat 32 k.val))))
        (0#1) ((W (Proc.devRef .tc main_v186_4) : IVec S5000 1) (ix1 q))
      = BitVec.ofBool (decide (A q ∧ ¬ (A k ∧ Ideal.ofBits .f32 0x3E99999A#32 < I k q ∧ k < q))) := by
    intro a b c D ha hb hc
    subst ha hb hc
    rw [h1, h4, h4, sgt_words]
    have h0' := h0 b c
    by_cases x1 : A c <;> by_cases x2 : A b <;> by_cases x3 : Ideal.ofBits .f32 0x3E99999A#32 < I b c <;> by_cases x4 : b < c <;>
      simp [x1, x2, x3, x4, h0', IntOp.andi, Scalar.select]
  unfold step_main_v186_4 res_main_while0b_v233
  rw [h3]
  simp only [id]
  clean_types
  pointwise
  refine key _ _ _ _ ?_ ?_ ?_
  · refine Fin.ext ?_
    simp only [Host.clampedStart]
    rw [toInt_wrap]
    have := k.isLt
    simp
    omega
  · refine Fin.ext ?_
    simp only [Host.clampedStart]
    show (min (max (Scalar.select (IntOp.cmpi .slt (BitVec.ofNat 32 k.val) 0#32) (IntOp.addi (BitVec.ofNat 32 k.val) 5000#32) (BitVec.ofNat 32 k.val)).toInt 0)
      ((4999 : ℕ) : ℤ)).toNat = k.val
    rw [toInt_wrap]
    have := k.isLt
    omega
  · refine Fin.ext ?_
    simp only [Host.clampedStart]
    show (min (max (Scalar.select (IntOp.cmpi .slt 0#32 0#32) (IntOp.addi 0#32 5000#32) 0#32).toInt 0)
      ((0 : ℕ) : ℤ)).toNat + q.val = q.val
    omega

section
variable (V : Valuation τ sig (Elt Ideal))

theorem E5_v186_3 : E5 V (Proc.devRef .tc main_v186_3) = fun _ => (0#32 : BitVec 32) := by
  unfold E5
  after_reads_simp
  rfl

theorem iter_v186_0 (k : ℕ) : STEP^[k] (E5 V) (Proc.devRef .tc main_v186_0) = E5 V (Proc.devRef .tc main_v186_0) := by
  induction k with
  | zero => rfl
  | succ k ih => rw [Function.iterate_succ_apply', STEP_main_v186_0, ih]
theorem iter_v186_1 (k : ℕ) : STEP^[k] (E5 V) (Proc.devRef .tc main_v186_1) = E5 V (Proc.devRef .tc main_v186_1) := by
  induction k with
  | zero => rfl
  | succ k ih => rw [Function.iterate_succ_apply', STEP_main_v186_1, ih]
theorem iter_v186_3 (k : ℕ) : STEP^[k] (E5 V) (Proc.devRef .tc main_v186_3) = fun _ => BitVec.ofNat 32 k := by
  induction k with
  | zero => exact E5_v186_3 V
  | succ k ih =>
    rw [Function.iterate_succ_apply', STEP_main_v186_3]
    unfold step_main_v186_3
    rw [ih]
    funext _
    show BitVec.ofNat 32 k + 1#32 = BitVec.ofNat 32 (k + 1)
    exact (BitVec.ofNat_add k 1).symm

/-- The rows still in after some trips. -/
def inAt (k : ℕ) (q : Fin 5000) : Prop := (STEP^[k] (E5 V) (Proc.devRef .tc main_v186_4) : IVec S5000 1) (ix1 q) = 1#1

theorem bit_eq (w : BitVec 1) (D : Decidable (w = 1#1)) : w = BitVec.ofBool (@decide (w = 1#1) D) := by
  rcases (BitVec.eq_zero_or_eq_one w) with rfl | rfl <;> simp

/-- A row's box, by its place in the order. -/
def boxAt (q : Fin 5000) : Fin 4 → EReal := offOf (rois V (ord V q)) (probs V (ord V q)) (deltas V (ord V q))

theorem bit_iff (P : Prop) (D : Decidable P) : BitVec.ofBool (@decide P D) = 1#1 ↔ P := by
  by_cases h : P <;> simp [h]

/-- The loop leaves the rows the suppression fixes, in the order by score. -/
theorem in_fix : Fix (fun q => keptOf (probs V (ord V q))) (fun p q => p < q ∧ ovR (boxAt V p) (boxAt V q)) (inAt V 5000) := by
  classical
  refine trips_fix (n := 5000) _ (fun p q => ovR (boxAt V p) (boxAt V q)) (inAt V) ?_ ?_
  · intro q
    unfold inAt
    rw [show STEP^[0] (E5 V) = E5 V from rfl, E5_v186_4]
    exact bit_iff _ _
  · intro k q
    have h := step_apply (STEP^[k.val] (E5 V)) k q (inAt V k.val)
      (fun p q => Ideal.div (interE (boxAt V p) (boxAt V q)) (max (unionE (boxAt V p) (boxAt V q)) (Ideal.ofBits .f32 0x322BCC77#32)))
      (iter_v186_3 V k.val) (fun q => bit_eq _ _) (fun p q => by rw [iter_v186_0]; exact E5_v186_0 V p q)
      (fun q => by rw [iter_v186_1]; exact E5_v186_1 V q)
    have e : inAt V (k.val + 1) q ↔ (step_main_v186_4 (STEP^[k.val] (E5 V)) : IVec S5000 1) (ix1 q) = 1#1 := by
      unfold inAt
      rw [Function.iterate_succ_apply', STEP_main_v186_4]
    rw [e, h, bit_iff]
    rfl

end
end Cert.Proof.RI
end
-- ==== Proof.RI.Res.lean ====
module

public import proofs.«01_k».proof.Proof.RI.Loop

@[expose] public section
noncomputable section
namespace Cert.Proof.RI

open Cert.ReferenceIdeal Cert.ReferenceIdeal.Gen Cert.ReferenceIdeal.Value Cert.Proof.Nms
open Idealize.ShloMosaic Idealize.ShloMosaic.StableHlo Idealize.ShloMosaic.TcCoe

/-- A place among the hundred, as a place among all. -/
def at5000 (k : Fin 100) : Fin 5000 := ⟨k.val, by omega⟩

/-- The greatest hundred of a column, and their places. -/
theorem topK_at (x : S5000.Idx → EReal) (h : S5000.Slices (fun _ => 0) S100) (k : Fin 100) :
    (Host.topK S100 0 (FloatOps.cmpfTotal (F := Ideal) (φ := .f32) .gt) x h).1 (ix1 k) = x (ix1 (ordOf (fun q => x (ix1 q)) (at5000 k)))
    ∧ (Host.topK S100 0 (FloatOps.cmpfTotal (F := Ideal) (φ := .f32) .gt) x h).2 (ix1 k)
      = BitVec.ofNat 32 (ordOf (fun q => x (ix1 q)) (at5000 k)).val := by
  have hs := sort2_at (n := 5000) (fun l r : EReal × BitVec 32 => FloatOps.cmpfTotal (F := Ideal) (φ := .f32) .gt l.1 r.1) x (iotaInDim S5000 32 0) (at5000 k)
  have ho : (sortedFrom fun k k' : Fin 5000 => FloatOps.cmpfTotal (F := Ideal) (φ := .f32) .gt (x (ix1 k)) (x (ix1 k')) == 1#1) = ordOf fun q => x (ix1 q) := by
    unfold ordOf
    refine congrArg sortedFrom ?_
    funext a b
    rw [Ideal.cmpfTotal_def, Bool.eq_iff_iff]
    by_cases hab : x (ix1 b) < x (ix1 a) <;> simp [Ideal.cmp, CmpDirection.ordered, hab]
  rw [ho] at hs
  have hx : ∀ {α : Type} (y : S5000.Idx → α), extractStridedSlice S100 (fun _ => 0) y h (ix1 k) = y (ix1 (at5000 k)) := by
    intro α y
    unfold extractStridedSlice
    refine congrArg y ?_
    funext b
    obtain rfl : b = 0 := Subsingleton.elim _ _
    refine Fin.ext ?_
    exact Nat.zero_add _
  constructor
  · exact (hx _).trans hs.1
  · exact (hx _).trans (hs.2.trans (iota_at _))

section
variable (W : Valuation τ sig (Elt Ideal)) (f : Fin 5000 → EReal) (π : Fin 5000 → Fin 5000)
  (hf : ∀ q, (W (Proc.devRef .tc main_v187) : Vec Ideal S5000 .f32) (ix1 q) = f q)
  (hπ : ∀ q, (W (Proc.devRef .tc main_v116) : IVec S5000 32) (ix1 q) = BitVec.ofNat 32 (π q).val)

include hf
theorem res_values (k : Fin 100) : (after hostOps0_19 W (Proc.devRef .tc main_values) : Vec Ideal S100 .f32) (ix1 k) = f (ordOf f (at5000 k)) := by
  after_reads_simp
  clean_types
  have h := (topK_at (W (Proc.devRef .tc main_v187)) sliceFits_S5000_S100 k).1
  refine h.trans ?_
  rw [hf, funext hf]

theorem res_indices (k : Fin 100) : (after hostOps0_19 W (Proc.devRef .tc main_indices) : IVec S100 32) (ix1 k) = BitVec.ofNat 32 (ordOf f (at5000 k)).val := by
  after_reads_simp
  clean_types
  have h := (topK_at (W (Proc.devRef .tc main_v187)) sliceFits_S5000_S100 k).2
  refine h.trans ?_
  rw [funext hf]

include hπ
theorem res_v194 (k : Fin 100) : (after hostOps0_19 W (Proc.devRef .tc main_v194) : IVec S100 32) (ix1 k) = BitVec.ofNat 32 (π (ordOf f (at5000 k))).val := by
  have hi := res_indices W f hf k
  revert hi
  after_reads_simp
  clean_types
  generalize Host.topK _ _ _ _ _ = T
  intro hi
  refine (gath_col100 _ _ k (ordOf f (at5000 k)) ?_).trans (hπ _)
  pointwise
  rw [hi]
  exact wrapW _ (by omega) _

theorem res_v205 (k : Fin 100) (c : Fin 4) : (after hostOps0_19 W (Proc.devRef .tc main_v205) : Vec Ideal S100x4 .f32) (ix2 k c)
    = (W (Proc.devRef .tc main_v102) : Vec Ideal S5000x4 .f32) (ix2 (π (ordOf f (at5000 k))) c) := by
  have hi := res_v194 W f π hf hπ k
  revert hi
  after_reads_simp
  clean_types
  generalize Host.gather gather_S5000_S100x1_S100_n_0_n_n_0_1_1 _ _ = T
  intro hi
  refine gath_rows100 _ _ k (π (ordOf f (at5000 k))) c ?_
  pointwise
  rw [hi]
  exact wrapW _ (by omega) _

theorem res_v212 (k : Fin 100) : (after hostOps0_19 W (Proc.devRef .tc main_v212) : IVec S100 32) (ix1 k)
    = (W (Proc.devRef .tc main_v0) : IVec S5000 32) (ix1 (π (ordOf f (at5000 k)))) := by
  have hi := res_v194 W f π hf hπ k
  revert hi
  after_reads_simp
  clean_types
  generalize Host.gather gather_S5000_S100x1_S100_n_0_n_n_0_1_1 (W (Proc.devRef .tc main_v116)) _ = T
  intro hi
  refine gath_col100 _ _ k (π (ordOf f (at5000 k))) ?_
  pointwise
  rw [hi]
  exact wrapW _ (by omega) _

theorem res_v221 (k : Fin 100) : (after hostOps0_19 W (Proc.devRef .tc main_v221) : Vec Ideal S100 .f32) (ix1 k)
    = (W (Proc.devRef .tc main_v15) : Vec Ideal S5000 .f32) (ix1 (π (ordOf f (at5000 k)))) := by
  have hi := res_v194 W f π hf hπ k
  revert hi
  after_reads_simp
  clean_types
  generalize Host.gather gather_S5000_S100x1_S100_n_0_n_n_0_1_1 (W (Proc.devRef .tc main_v116)) _ = T
  intro hi
  refine gath_col100 _ _ k (π (ordOf f (at5000 k))) ?_
  pointwise
  rw [hi]
  exact wrapW _ (by omega) _

open Classical in
/-- The reference's result: a row of the table, or zeros. -/
theorem res_v225 (k : Fin 100) (c : Fin 6) (X : Fin 5000 → Fin 4 → EReal) (C : Fin 5000 → ℕ) (S : Fin 5000 → EReal)
    (hX : ∀ i c, (W (Proc.devRef .tc main_v102) : Vec Ideal S5000x4 .f32) (ix2 i c) = X i c)
    (hC : ∀ i, (W (Proc.devRef .tc main_v0) : IVec S5000 32) (ix1 i) = BitVec.ofNat 32 (C i)) (hC' : ∀ i, C i < 81)
    (hS : ∀ i, (W (Proc.devRef .tc main_v15) : Vec Ideal S5000 .f32) (ix1 i) = S i) :
    (after hostOps0_19 W (Proc.devRef .tc main_v225) : Vec Ideal S100x6 .f32) (ix2 k c)
      = (if h : c.val < 4 then X (π (ordOf f (at5000 k))) ⟨c.val, h⟩ else if c.val = 4 then ((C (π (ordOf f (at5000 k))) : ℝ) : EReal) else S (π (ordOf f (at5000 k))))
        * (if 0 < f (ordOf f (at5000 k)) then 1 else 0) := by
  have h1 := res_values W f hf k
  have h2 := fun c => (res_v205 W f π hf hπ k c).trans (hX _ c)
  have h3 := (res_v212 W f π hf hπ k).trans (hC _)
  have h4 := (res_v221 W f π hf hπ k).trans (hS _)
  generalize π (ordOf f (at5000 k)) = t at h2 h3 h4 ⊢
  after_reads_simp
  clean_types
  pointwise
  revert h1 h2 h3 h4
  after_reads_simp
  clean_types
  generalize Host.topK _ _ _ _ _ = T
  generalize Host.gather gather_S5000x4_S100x1_S100x4_1_0_n_n_0_1_14 _ _ = G
  generalize Host.gather gather_S5000_S100x1_S100_n_0_n_n_0_1_1 (W (Proc.devRef .tc main_v0)) _ = G'
  generalize Host.gather gather_S5000_S100x1_S100_n_0_n_n_0_1_1 (W (Proc.devRef .tc main_v15)) _ = G''
  intro h1 h2 h3 h4
  pointwise
  rw [h1]
  refine congrArg₂ (fun a b : EReal => a * b) ?_ ?_
  · by_cases hc : c.val < 4
    · rw [dif_pos hc, dif_pos hc]; exact h2 _
    · rw [dif_neg hc, dif_neg hc]
      by_cases hc4 : c.val = 4
      · rw [dif_pos (by omega), if_pos hc4]
        have h3' := congrArg (FloatOps.sitofp (F := Ideal) (w := 32) .f32) h3
        exact h3'.trans (word_real (by have := hC' t; omega))
      · rw [dif_neg (by omega), if_neg hc4]; exact h4
  · by_cases hp : 0 < f (ordOf f (at5000 k))
    · rw [if_pos hp, decide_eq_true hp]
      show ((((1#1 : BitVec 1).toNat : ℝ)) : EReal) = 1
      simp
    · rw [if_neg hp, decide_eq_false hp]
      show ((((0#1 : BitVec 1).toNat : ℝ)) : EReal) = 0
      simp
end

section
variable (m : (ℓ : Loc nD τ sig) → Buf (Elt Ideal) ℓ) (c : Dev nD)

/-- The contents the reference starts from. -/
def start : Valuation τ sig (Elt Ideal) := entryContents [] m c

theorem entry_eq : entryContents preI m c = E5 (start m c) := rfl

/-- The contents after the loop. -/
def EL : Valuation τ sig (Elt Ideal) := after condOps (atTrip condOps bodyI (entryContents preI m) 5000 c)

theorem EL_kept (r : Ref sig .tc) (h : r ∉ loop_W) : EL m c (Proc.devRef .tc r) = E5 (start m c) (Proc.devRef .tc r) := by
  unfold EL
  rw [StableHlo.after_of_writes_sub _ _ condOps_writes (fun hm => h (by simp only [loop_W, List.mem_append]; exact .inl (.inl (.inl hm)))),
    atTrip_kept _ c r h, entry_eq]

theorem EL_alive : EL m c (Proc.devRef .tc main_v186_4) = STEP^[5000] (E5 (start m c)) (Proc.devRef .tc main_v186_4) := by
  unfold EL
  rw [cond_keeps _ main_v186_4 (by decide)]
  exact (atK_agree m c 5000 main_v186_4 (by decide)).trans (by rw [entry_eq])

/-- The contents after the final scores. -/
def EF : Valuation τ sig (Elt Ideal) := after hostOps0_18 (after hostOps0_17 (EL m c))

open Classical in
/-- A row's final score in the reference's order: −1 where it was put out. -/
def fin (q : Fin 5000) : EReal :=
  if inAt (start m c) 5000 q then scoreOf (probs (start m c) (ord (start m c) q)) else Ideal.ofBits .f32 0xBF800000#32

theorem v187_at (W : Valuation τ sig (Elt Ideal)) (q : Fin 5000) :
    (after hostOps0_18 (after hostOps0_17 W) (Proc.devRef .tc main_v187) : Vec Ideal S5000 .f32) (ix1 q)
      = Scalar.select ((W (Proc.devRef .tc main_v186_4) : IVec S5000 1) (ix1 q)) ((W (Proc.devRef .tc main_v130) : Vec Ideal S5000 .f32) (ix1 q))
          (Ideal.ofBits .f32 0xBF800000#32) := by
  after_reads_simp
  try simp -implicitDefEqProofs only [StableHlo.TRef.toBuf, StableHlo.TRef.ofBuf, cast_cast, cast_eq]
  clean_types
  simp only [id]
  rfl

theorem EF_v187 (q : Fin 5000) : (EF m c (Proc.devRef .tc main_v187) : Vec Ideal S5000 .f32) (ix1 q) = fin m c q := by
  unfold EF fin
  rw [v187_at, EL_alive, EL_kept m c main_v130 (by decide +kernel), E5_v130]
  by_cases h : inAt (start m c) 5000 q
  · rw [if_pos h]
    unfold inAt at h
    rw [h]; rfl
  · rw [if_neg h]
    unfold inAt at h
    rw [(BitVec.eq_zero_or_eq_one _).resolve_right h]; rfl

theorem EF_kept (r : Ref sig .tc) (h : r ∉ loop_W) (h' : r ∉ post17_W ++ post18_W) : EF m c (Proc.devRef .tc r) = E5 (start m c) (Proc.devRef .tc r) := by
  simp only [List.mem_append, not_or] at h'
  unfold EF
  rw [StableHlo.after_of_writes_sub _ _ post18_writes h'.2, StableHlo.after_of_writes_sub _ _ post17_writes h'.1, EL_kept m c r h]

/-- The reference's table of detections, before the selection. -/
def tab (V : Valuation τ sig (Elt Ideal)) (i : Fin 5000) (e : Fin 6) : EReal :=
  if h : e.val < 4 then boxOf (rois V i) (probs V i) (deltas V i) ⟨e.val, h⟩
  else if e.val = 4 then (((top (probs V i)).val : ℝ) : EReal) else probs V i (top (probs V i))

open Classical in
/-- The reference's result, at a row and a column. -/
theorem result_at (k : Fin 100) (e : Fin 6) :
    (finalContents condOps preI bodyI postI 5000 m c (Proc.devRef .tc main_v225) : Vec Ideal S100x6 .f32) (ix2 k e)
      = tab (start m c) (ord (start m c) (ordOf (fin m c) (at5000 k))) e * (if 0 < fin m c (ordOf (fin m c) (at5000 k)) then 1 else 0) := by
  have h := res_v225 (EF m c) (fin m c) (ord (start m c)) (EF_v187 m c)
    (fun q => by rw [EF_kept m c main_v116 (by decide +kernel) (by decide +kernel)]; exact E5_v116 (start m c) q) k e
    (fun i => boxOf (rois (start m c) i) (probs (start m c) i) (deltas (start m c) i)) (fun i => (top (probs (start m c) i)).val)
    (fun i => probs (start m c) i (top (probs (start m c) i)))
    (fun i e => by rw [EF_kept m c main_v102 (by decide +kernel) (by decide +kernel)]; exact E5_v102 (start m c) i e)
    (fun i => by rw [EF_kept m c main_v0 (by decide +kernel) (by decide +kernel)]; exact E5_v0 (start m c) i)
    (fun i => (top (probs (start m c) i)).isLt)
    (fun i => by rw [EF_kept m c main_v15 (by decide +kernel) (by decide +kernel)]; exact E5_v15 (start m c) i)
  unfold tab
  exact h

end
end Cert.Proof.RI
end
-- ==== Proof.Alg.Same.lean ====
/-
  The kernel's result and the reference's are the same at every row and column, of equal arguments in order.
-/
module

public import proofs.«01_k».proof.Proof.PI.Out
public import proofs.«01_k».proof.Proof.RI.Res

@[expose] public section

noncomputable section

namespace Cert.Proof

open Idealize.ShloMosaic Idealize.ShloMosaic.StableHlo
open Cert.Proof.Nms

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- What the reference starts from, at a device. -/
abbrev st : Valuation ReferenceIdeal.τ ReferenceIdeal.sig (Elt Ideal) := RI.start m' c

theorem same_of (hx : RI.rois (st m' c) = PI.argX m c) (hp : RI.probs (st m' c) = PI.argP m c) (hd : RI.deltas (st m' c) = PI.argD m c)
    (h0 : ∀ i, PI.argX m c i 0 ≤ PI.argX m c i 2) (h1 : ∀ i, PI.argX m c i 1 ≤ PI.argX m c i 3) (k : Fin 100) (e : Fin 6) :
    (KernelIdeal.Gen.V15 m (PI.outs m) c (Proc.devRef .tc KernelIdeal.main_v17) : Vec Ideal KernelIdeal.S100x6 .f32) (ix2 k e)
      = (StableHlo.finalContents ReferenceIdeal.Value.condOps ReferenceIdeal.Value.preI ReferenceIdeal.Value.bodyI ReferenceIdeal.Value.postI 5000 m' c
          (Proc.devRef .tc ReferenceIdeal.main_v225) : Vec Ideal ReferenceIdeal.S100x6 .f32) (ix2 k e) := by
  classical
  have hsc : ∀ p, scoreOf (RI.probs (st m' c) p) = PI.scoA m c p := fun p => by rw [hp]; rfl
  have hord : RI.ord (st m' c) = RI.ordOf (PI.scoA m c) := by unfold RI.ord; rw [hp]; rfl
  have hfix : Fix (fun p => 0 ≤ PI.scoA m c (RI.ordOf (PI.scoA m c) p))
      (fun p q => p < q ∧ ovR (PI.offB m c (RI.ordOf (PI.scoA m c) p)) (PI.offB m c (RI.ordOf (PI.scoA m c) q))) (RI.inAt (st m' c) 5000) := by
    intro j
    rw [RI.in_fix (st m' c) j]
    unfold RI.boxAt PI.offB PI.scoA
    rw [hx, hp, hd, hord]
    simp only [kept_iff]
    rfl
  have hfin : ∀ p, RI.fin m' c p = if RI.inAt (st m' c) 5000 p then PI.scoA m c (RI.ordOf (PI.scoA m c) p) else -1 := by
    intro p
    unfold RI.fin
    rw [lit_neg_one, hsc, hord]
  have hpick := pick_eq (n := 5000) (N := 5120) (by omega) (PI.scoA m c) (PI.offB m c) (fun _ => 0) (PI.leftB m c) (PI.leftB_fix m c) (PI.packB m c e)
    (RI.at5000 k) (RI.ordOf (PI.scoA m c)) (RI.ordOf (RI.fin m' c)) (RI.fin m' c) (RI.inAt (st m' c) 5000) (RI.ordOf_bij _) (RI.ordOf_prec _)
    hfix (fun i => good_offOf _ _ _ (h0 i) (h1 i)) (fun i h => score_pos _ h) (RI.ordOf_bij _) (RI.ordOf_prec _) hfin
  refine (PI.result_sum m c k e).trans (Eq.trans ?_ (RI.result_at m' c k e).symm)
  refine Eq.trans ?_ (hpick.trans ?_)
  · rfl
  · rw [hord]
    refine congrArg (fun z : EReal => z * _) ?_
    refine (PI.in_v11 m c _ e).trans ?_
    unfold RI.tab
    rw [hx, hp, hd]

end Cert.Proof

end
-- ==== Proof.lean ====
/-
  The certificate: the frames of the kernel at both instances, the frame of the reference, the kernel's idealization, and
  the kernel's result equal to the reference's at the exact instance.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.P.Run
public import proofs.«01_k».proof.Proof.PI.Run
public import proofs.«01_k».proof.Proof.RI.Frame
public import proofs.«01_k».proof.Proof.Nms.Pre
public import proofs.«01_k».proof.Proof.Alg.Same

@[expose] public section

noncomputable section

namespace Cert.Proof

open Idealize.ShloMosaic Idealize.SL.Sem

/-- The kernel's frame at the exact instance. -/
theorem frame_kernelIdeal : Cert.quiescent_KernelIdeal := fun m ρ _ =>
  (θ_run Cert.KernelIdeal.defs _ _).mono (fun _ h => ⟨fun c => (h.1 c).2, h.2⟩) (PI.run_main (F := Ideal) m ρ)

/-- The kernel's frame at the bit instance. -/
theorem frame_kernel : Cert.quiescent_Kernel := fun m ρ _ =>
  (θ_run Cert.Kernel.defs _ _).mono (fun _ h => ⟨fun c => (h.1 c).2, h.2⟩) (P.run_main (F := Bits) m ρ)

/-- The reference's frame. -/
theorem frame_referenceIdeal : Cert.quiescent_ReferenceIdeal := fun m ρ _ =>
  (θ_run Cert.ReferenceIdeal.defs _ _).mono (fun _ h => ⟨fun c => (h.1 c).2, h.2⟩) (RI.run_args (F := Ideal) m ρ)

section
variable [Cert.Pre_ordered.Facts]

/-- The kernel's frame at the exact instance, of regions in order. -/
theorem frame_kernelIdeal_ordered : Cert.quiescent_KernelIdeal_pre_ordered := fun m ρ _ =>
  (θ_run Cert.KernelIdeal.defs _ _).mono (fun _ h => ⟨fun c => (h.1 c).2, h.2⟩) (PI.run_main (F := Ideal) m ρ)

/-- The reference's frame, of regions in order. -/
theorem frame_referenceIdeal_ordered : Cert.quiescent_ReferenceIdeal_pre_ordered := fun m ρ _ =>
  (θ_run Cert.ReferenceIdeal.defs _ _).mono (fun _ h => ⟨fun c => (h.1 c).2, h.2⟩) (RI.run_args (F := Ideal) m ρ)

/-- At the exact instance the kernel computes what the reference computes, of regions in order. -/
theorem same_results : Cert.algebraic_KernelIdeal_ReferenceIdeal_pre_ordered := by
  intro m g m' g' hpre harg
  refine ⟨fun c => KernelIdeal.Gen.V15 m (PI.outs m) c (Proc.devRef .tc KernelIdeal.main_v17), ?_, ?_⟩
  · exact (θ_run Cert.KernelIdeal.defs _ _).mono (fun _ h => h.1) (PI.run_main (F := Ideal) m g)
  · refine (θ_run Cert.ReferenceIdeal.defs _ _).mono (fun r h c => ⟨(h.1 c).1.trans ?_, (h.1 c).2⟩) (RI.run_args (F := Ideal) m' g')
    have hx : RI.rois (st m' c) = PI.argX m c := funext fun i => funext fun e => congrFun (harg c).1 (ix2 i e)
    have hp : RI.probs (st m' c) = PI.argP m c := funext fun i => funext fun j => congrFun (harg c).2.1 (ix2 i j)
    have hd : RI.deltas (st m' c) = PI.argD m c := funext fun i => funext fun j => funext fun e => congrFun (harg c).2.2 (ix3 i j e)
    have ho := fun i => Nms.ordered_spec _ _ _ (hpre c) i
    funext q
    obtain ⟨k, e, rfl⟩ : ∃ (k : Fin 100) (e : Fin 6), q = ix2 k e := ⟨q 0, q 1, by funext a; fin_cases a <;> rfl⟩
    exact (same_of m m' c hx hp hd (fun i => (ho i).1) (fun i => (ho i).2) k e).symm
end

theorem claim : Cert.Claim := ⟨Cert.Kernel.Gen.facts, Cert.KernelIdeal.Gen.facts, Cert.ReferenceIdeal.Gen.facts, Nms.pre_facts,
  frame_kernel, frame_kernelIdeal, @frame_kernelIdeal_ordered Nms.pre_facts, frame_referenceIdeal,
  @frame_referenceIdeal_ordered Nms.pre_facts, trivial, @same_results Nms.pre_facts⟩

end Cert.Proof

end
